-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4, 128]⟩ ⟨2, ![128, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S4x128 : Shape := ⟨2, ![4, 128]⟩
abbrev S3x3x128x128 : Shape := ⟨4, ![3, 3, 128, 128]⟩
abbrev S3x7x128x128 : Shape := ⟨4, ![3, 7, 128, 128]⟩
abbrev S3x128x128 : Shape := ⟨3, ![3, 128, 128]⟩
abbrev S31x4x128 : Shape := ⟨3, ![31, 4, 128]⟩
abbrev S_ : Shape := ⟨0, ![]⟩
abbrev S3 : Shape := ⟨1, ![3]⟩
abbrev S1x128x128 : Shape := ⟨3, ![1, 128, 128]⟩
abbrev S1 : Shape := ⟨1, ![1]⟩
abbrev S1x1x128x128 : Shape := ⟨4, ![1, 1, 128, 128]⟩
abbrev S1x3x128x128 : Shape := ⟨4, ![1, 3, 128, 128]⟩
abbrev S1x7x128x128 : Shape := ⟨4, ![1, 7, 128, 128]⟩
abbrev S7x128x128 : Shape := ⟨3, ![7, 128, 128]⟩
abbrev S1x4x128 : Shape := ⟨3, ![1, 4, 128]⟩

abbrev nBuf : Space → Nat
  | .hbm => 8
  | .vmem => 14
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S4x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S4x128, .f32⟩
  | .local _ .vmem, ⟨8, _⟩ => ⟨S3x3x128x128, .bf16⟩
  | .local _ .vmem, ⟨9, _⟩ => ⟨S3x7x128x128, .bf16⟩
  | .local _ .vmem, ⟨10, _⟩ => ⟨S3x128x128, .bf16⟩
  | .local _ .vmem, ⟨11, _⟩ => ⟨S3x128x128, .bf16⟩
  | .local _ .vmem, ⟨12, _⟩ => ⟨S31x4x128, .f32⟩
  | .local _ .vmem, ⟨13, _⟩ => ⟨S128x128, .f32⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v32 : BitVec 32 := Scalar.addi v30 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v20 v42
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32 : BitVec 32 := 2#32
  let v46 : BitVec 32 := Scalar.addi v30 c2_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v20 v56
  let c1_i32_29 : BitVec 32 := 1#32
  let v58 : BitVec 32 := Scalar.muli v57 c1_i32_29
  let v59 : BitVec 32 := Scalar.addi c0_i32_30 v58
  v59.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32 : BitVec 32 := 3#32
  let v60 : BitVec 32 := Scalar.addi v30 c3_i32
  let c4_i32_31 : BitVec 32 := 4#32
  let c0_i32_32 : BitVec 32 := 0#32
  let v61 : BitVec 1 := Scalar.cmpi .eq c4_i32_31 c0_i32_32
  let c1_i32_33 : BitVec 32 := 1#32
  let v62 : BitVec 32 := Scalar.select v61 c1_i32_33 c4_i32_31
  let v63 : BitVec 32 := Scalar.remsi v60 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let v71 : BitVec 32 := Scalar.addi v20 v70
  let c1_i32_38 : BitVec 32 := 1#32
  let v72 : BitVec 32 := Scalar.muli v71 c1_i32_38
  let v73 : BitVec 32 := Scalar.addi c0_i32_39 v72
  v73.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_40 : BitVec 32 := 4#32
  let v74 : BitVec 32 := Scalar.addi v20 c4_i32_40
  let c32_i32_41 : BitVec 32 := 32#32
  let c0_i32_42 : BitVec 32 := 0#32
  let v75 : BitVec 1 := Scalar.cmpi .eq c32_i32_41 c0_i32_42
  let c1_i32_43 : BitVec 32 := 1#32
  let v76 : BitVec 32 := Scalar.select v75 c1_i32_43 c32_i32_41
  let v77 : BitVec 32 := Scalar.remsi v74 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v85 : BitVec 32 := Scalar.addi v84 v30
  let c1_i32_48 : BitVec 32 := 1#32
  let v86 : BitVec 32 := Scalar.muli v85 c1_i32_48
  let v87 : BitVec 32 := Scalar.addi c0_i32_49 v86
  v87.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c8_i32 : BitVec 32 := 8#32
  let v88 : BitVec 32 := Scalar.addi v20 c8_i32
  let c32_i32_50 : BitVec 32 := 32#32
  let c0_i32_51 : BitVec 32 := 0#32
  let v89 : BitVec 1 := Scalar.cmpi .eq c32_i32_50 c0_i32_51
  let c1_i32_52 : BitVec 32 := 1#32
  let v90 : BitVec 32 := Scalar.select v89 c1_i32_52 c32_i32_50
  let v91 : BitVec 32 := Scalar.remsi v88 v90
  let c0_i32_54 : BitVec 32 := 0#32
  let v93 : BitVec 1 := Scalar.cmpi .slt v91 c0_i32_54
  let c0_i32_55 : BitVec 32 := 0#32
  let v94 : BitVec 1 := Scalar.cmpi .slt v90 c0_i32_55
  let v95 : BitVec 1 := Scalar.xori v93 v94
  let c0_i32_53 : BitVec 32 := 0#32
  let v92 : BitVec 1 := Scalar.cmpi .ne v91 c0_i32_53
  let v96 : BitVec 1 := Scalar.andi v95 v92
  let v97 : BitVec 32 := Scalar.addi v91 v90
  let v98 : BitVec 32 := Scalar.select v96 v97 v91
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v99 : BitVec 32 := Scalar.addi v98 v30
  let c1_i32_57 : BitVec 32 := 1#32
  let v100 : BitVec 32 := Scalar.muli v99 c1_i32_57
  let v101 : BitVec 32 := Scalar.addi c0_i32_58 v100
  v101.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c12_i32 : BitVec 32 := 12#32
  let v102 : BitVec 32 := Scalar.addi v20 c12_i32
  let c32_i32_59 : BitVec 32 := 32#32
  let c0_i32_60 : BitVec 32 := 0#32
  let v103 : BitVec 1 := Scalar.cmpi .eq c32_i32_59 c0_i32_60
  let c1_i32_61 : BitVec 32 := 1#32
  let v104 : BitVec 32 := Scalar.select v103 c1_i32_61 c32_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v113 : BitVec 32 := Scalar.addi v112 v30
  let c1_i32_66 : BitVec 32 := 1#32
  let v114 : BitVec 32 := Scalar.muli v113 c1_i32_66
  let v115 : BitVec 32 := Scalar.addi c0_i32_67 v114
  v115.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c16_i32 : BitVec 32 := 16#32
  let v116 : BitVec 32 := Scalar.addi v20 c16_i32
  let c32_i32_68 : BitVec 32 := 32#32
  let c0_i32_69 : BitVec 32 := 0#32
  let v117 : BitVec 1 := Scalar.cmpi .eq c32_i32_68 c0_i32_69
  let c1_i32_70 : BitVec 32 := 1#32
  let v118 : BitVec 32 := Scalar.select v117 c1_i32_70 c32_i32_68
  let v119 : BitVec 32 := Scalar.remsi v116 v118
  let c0_i32_72 : BitVec 32 := 0#32
  let v121 : BitVec 1 := Scalar.cmpi .slt v119 c0_i32_72
  let c0_i32_73 : BitVec 32 := 0#32
  let v122 : BitVec 1 := Scalar.cmpi .slt v118 c0_i32_73
  let v123 : BitVec 1 := Scalar.xori v121 v122
  let c0_i32_71 : BitVec 32 := 0#32
  let v120 : BitVec 1 := Scalar.cmpi .ne v119 c0_i32_71
  let v124 : BitVec 1 := Scalar.andi v123 v120
  let v125 : BitVec 32 := Scalar.addi v119 v118
  let v126 : BitVec 32 := Scalar.select v124 v125 v119
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v127 : BitVec 32 := Scalar.addi v126 v30
  let c1_i32_75 : BitVec 32 := 1#32
  let v128 : BitVec 32 := Scalar.muli v127 c1_i32_75
  let v129 : BitVec 32 := Scalar.addi c0_i32_76 v128
  v129.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c20_i32 : BitVec 32 := 20#32
  let v130 : BitVec 32 := Scalar.addi v20 c20_i32
  let c32_i32_77 : BitVec 32 := 32#32
  let c0_i32_78 : BitVec 32 := 0#32
  let v131 : BitVec 1 := Scalar.cmpi .eq c32_i32_77 c0_i32_78
  let c1_i32_79 : BitVec 32 := 1#32
  let v132 : BitVec 32 := Scalar.select v131 c1_i32_79 c32_i32_77
  let v133 : BitVec 32 := Scalar.remsi v130 v132
  let c0_i32_81 : BitVec 32 := 0#32
  let v135 : BitVec 1 := Scalar.cmpi .slt v133 c0_i32_81
  let c0_i32_82 : BitVec 32 := 0#32
  let v136 : BitVec 1 := Scalar.cmpi .slt v132 c0_i32_82
  let v137 : BitVec 1 := Scalar.xori v135 v136
  let c0_i32_80 : BitVec 32 := 0#32
  let v134 : BitVec 1 := Scalar.cmpi .ne v133 c0_i32_80
  let v138 : BitVec 1 := Scalar.andi v137 v134
  let v139 : BitVec 32 := Scalar.addi v133 v132
  let v140 : BitVec 32 := Scalar.select v138 v139 v133
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v141 : BitVec 32 := Scalar.addi v140 v30
  let c1_i32_84 : BitVec 32 := 1#32
  let v142 : BitVec 32 := Scalar.muli v141 c1_i32_84
  let v143 : BitVec 32 := Scalar.addi c0_i32_85 v142
  v143.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c24_i32 : BitVec 32 := 24#32
  let v144 : BitVec 32 := Scalar.addi v20 c24_i32
  let c32_i32_86 : BitVec 32 := 32#32
  let c0_i32_87 : BitVec 32 := 0#32
  let v145 : BitVec 1 := Scalar.cmpi .eq c32_i32_86 c0_i32_87
  let c1_i32_88 : BitVec 32 := 1#32
  let v146 : BitVec 32 := Scalar.select v145 c1_i32_88 c32_i32_86
  let v147 : BitVec 32 := Scalar.remsi v144 v146
  let c0_i32_90 : BitVec 32 := 0#32
  let v149 : BitVec 1 := Scalar.cmpi .slt v147 c0_i32_90
  let c0_i32_91 : BitVec 32 := 0#32
  let v150 : BitVec 1 := Scalar.cmpi .slt v146 c0_i32_91
  let v151 : BitVec 1 := Scalar.xori v149 v150
  let c0_i32_89 : BitVec 32 := 0#32
  let v148 : BitVec 1 := Scalar.cmpi .ne v147 c0_i32_89
  let v152 : BitVec 1 := Scalar.andi v151 v148
  let v153 : BitVec 32 := Scalar.addi v147 v146
  let v154 : BitVec 32 := Scalar.select v152 v153 v147
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v155 : BitVec 32 := Scalar.addi v154 v30
  let c1_i32_93 : BitVec 32 := 1#32
  let v156 : BitVec 32 := Scalar.muli v155 c1_i32_93
  let v157 : BitVec 32 := Scalar.addi c0_i32_94 v156
  v157.toNat
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c28_i32 : BitVec 32 := 28#32
  let v158 : BitVec 32 := Scalar.addi v20 c28_i32
  let c32_i32_95 : BitVec 32 := 32#32
  let c0_i32_96 : BitVec 32 := 0#32
  let v159 : BitVec 1 := Scalar.cmpi .eq c32_i32_95 c0_i32_96
  let c1_i32_97 : BitVec 32 := 1#32
  let v160 : BitVec 32 := Scalar.select v159 c1_i32_97 c32_i32_95
  let v161 : BitVec 32 := Scalar.remsi v158 v160
  let c0_i32_99 : BitVec 32 := 0#32
  let v163 : BitVec 1 := Scalar.cmpi .slt v161 c0_i32_99
  let c0_i32_100 : BitVec 32 := 0#32
  let v164 : BitVec 1 := Scalar.cmpi .slt v160 c0_i32_100
  let v165 : BitVec 1 := Scalar.xori v163 v164
  let c0_i32_98 : BitVec 32 := 0#32
  let v162 : BitVec 1 := Scalar.cmpi .ne v161 c0_i32_98
  let v166 : BitVec 1 := Scalar.andi v165 v162
  let v167 : BitVec 32 := Scalar.addi v161 v160
  let v168 : BitVec 32 := Scalar.select v166 v167 v161
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v169 : BitVec 32 := Scalar.addi v168 v30
  let c1_i32_102 : BitVec 32 := 1#32
  let v170 : BitVec 32 := Scalar.muli v169 c1_i32_102
  let v171 : BitVec 32 := Scalar.addi c0_i32_103 v170
  v171.toNat
def k0_dev11 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_114 : BitVec 32 := 1#32
  let v187 : BitVec 32 := Scalar.addi v30 c1_i32_114
  let c4_i32_115 : BitVec 32 := 4#32
  let c0_i32_116 : BitVec 32 := 0#32
  let v188 : BitVec 1 := Scalar.cmpi .eq c4_i32_115 c0_i32_116
  let c1_i32_117 : BitVec 32 := 1#32
  let v189 : BitVec 32 := Scalar.select v188 c1_i32_117 c4_i32_115
  let v190 : BitVec 32 := Scalar.remsi v187 v189
  let c0_i32_119 : BitVec 32 := 0#32
  let v192 : BitVec 1 := Scalar.cmpi .slt v190 c0_i32_119
  let c0_i32_120 : BitVec 32 := 0#32
  let v193 : BitVec 1 := Scalar.cmpi .slt v189 c0_i32_120
  let v194 : BitVec 1 := Scalar.xori v192 v193
  let c0_i32_118 : BitVec 32 := 0#32
  let v191 : BitVec 1 := Scalar.cmpi .ne v190 c0_i32_118
  let v195 : BitVec 1 := Scalar.andi v194 v191
  let v196 : BitVec 32 := Scalar.addi v190 v189
  let v197 : BitVec 32 := Scalar.select v195 v196 v190
  let v198 : BitVec 32 := Scalar.addi v20 v197
  let c1_i32_125 : BitVec 32 := 1#32
  let v199 : BitVec 32 := Scalar.muli v198 c1_i32_125
  let v200 : BitVec 32 := Scalar.addi c0_i32_126 v199
  v200.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_131 : BitVec 32 := 2#32
  let v207 : BitVec 32 := Scalar.addi v30 c2_i32_131
  let c4_i32_132 : BitVec 32 := 4#32
  let c0_i32_133 : BitVec 32 := 0#32
  let v208 : BitVec 1 := Scalar.cmpi .eq c4_i32_132 c0_i32_133
  let c1_i32_134 : BitVec 32 := 1#32
  let v209 : BitVec 32 := Scalar.select v208 c1_i32_134 c4_i32_132
  let v210 : BitVec 32 := Scalar.remsi v207 v209
  let c0_i32_136 : BitVec 32 := 0#32
  let v212 : BitVec 1 := Scalar.cmpi .slt v210 c0_i32_136
  let c0_i32_137 : BitVec 32 := 0#32
  let v213 : BitVec 1 := Scalar.cmpi .slt v209 c0_i32_137
  let v214 : BitVec 1 := Scalar.xori v212 v213
  let c0_i32_135 : BitVec 32 := 0#32
  let v211 : BitVec 1 := Scalar.cmpi .ne v210 c0_i32_135
  let v215 : BitVec 1 := Scalar.andi v214 v211
  let v216 : BitVec 32 := Scalar.addi v210 v209
  let v217 : BitVec 32 := Scalar.select v215 v216 v210
  let v218 : BitVec 32 := Scalar.addi v20 v217
  let c1_i32_142 : BitVec 32 := 1#32
  let v219 : BitVec 32 := Scalar.muli v218 c1_i32_142
  let v220 : BitVec 32 := Scalar.addi c0_i32_143 v219
  v220.toNat
def k0_dev13 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_148 : BitVec 32 := 3#32
  let v227 : BitVec 32 := Scalar.addi v30 c3_i32_148
  let c4_i32_149 : BitVec 32 := 4#32
  let c0_i32_150 : BitVec 32 := 0#32
  let v228 : BitVec 1 := Scalar.cmpi .eq c4_i32_149 c0_i32_150
  let c1_i32_151 : BitVec 32 := 1#32
  let v229 : BitVec 32 := Scalar.select v228 c1_i32_151 c4_i32_149
  let v230 : BitVec 32 := Scalar.remsi v227 v229
  let c0_i32_153 : BitVec 32 := 0#32
  let v232 : BitVec 1 := Scalar.cmpi .slt v230 c0_i32_153
  let c0_i32_154 : BitVec 32 := 0#32
  let v233 : BitVec 1 := Scalar.cmpi .slt v229 c0_i32_154
  let v234 : BitVec 1 := Scalar.xori v232 v233
  let c0_i32_152 : BitVec 32 := 0#32
  let v231 : BitVec 1 := Scalar.cmpi .ne v230 c0_i32_152
  let v235 : BitVec 1 := Scalar.andi v234 v231
  let v236 : BitVec 32 := Scalar.addi v230 v229
  let v237 : BitVec 32 := Scalar.select v235 v236 v230
  let v238 : BitVec 32 := Scalar.addi v20 v237
  let c1_i32_159 : BitVec 32 := 1#32
  let v239 : BitVec 32 := Scalar.muli v238 c1_i32_159
  let v240 : BitVec 32 := Scalar.addi c0_i32_160 v239
  v240.toNat
def k0_dev14 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_203 : BitVec 32 := 4#32
  let v280 : BitVec 32 := Scalar.addi v20 c4_i32_203
  let c32_i32_204 : BitVec 32 := 32#32
  let c0_i32_205 : BitVec 32 := 0#32
  let v281 : BitVec 1 := Scalar.cmpi .eq c32_i32_204 c0_i32_205
  let c1_i32_206 : BitVec 32 := 1#32
  let v282 : BitVec 32 := Scalar.select v281 c1_i32_206 c32_i32_204
  let v283 : BitVec 32 := Scalar.remsi v280 v282
  let c0_i32_208 : BitVec 32 := 0#32
  let v285 : BitVec 1 := Scalar.cmpi .slt v283 c0_i32_208
  let c0_i32_209 : BitVec 32 := 0#32
  let v286 : BitVec 1 := Scalar.cmpi .slt v282 c0_i32_209
  let v287 : BitVec 1 := Scalar.xori v285 v286
  let c0_i32_207 : BitVec 32 := 0#32
  let v284 : BitVec 1 := Scalar.cmpi .ne v283 c0_i32_207
  let v288 : BitVec 1 := Scalar.andi v287 v284
  let v289 : BitVec 32 := Scalar.addi v283 v282
  let v290 : BitVec 32 := Scalar.select v288 v289 v283
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v291 : BitVec 32 := Scalar.addi v290 v30
  let c1_i32_214 : BitVec 32 := 1#32
  let v292 : BitVec 32 := Scalar.muli v291 c1_i32_214
  let v293 : BitVec 32 := Scalar.addi c0_i32_215 v292
  v293.toNat
def k0_dev15 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c8_i32_220 : BitVec 32 := 8#32
  let v300 : BitVec 32 := Scalar.addi v20 c8_i32_220
  let c32_i32_221 : BitVec 32 := 32#32
  let c0_i32_222 : BitVec 32 := 0#32
  let v301 : BitVec 1 := Scalar.cmpi .eq c32_i32_221 c0_i32_222
  let c1_i32_223 : BitVec 32 := 1#32
  let v302 : BitVec 32 := Scalar.select v301 c1_i32_223 c32_i32_221
  let v303 : BitVec 32 := Scalar.remsi v300 v302
  let c0_i32_225 : BitVec 32 := 0#32
  let v305 : BitVec 1 := Scalar.cmpi .slt v303 c0_i32_225
  let c0_i32_226 : BitVec 32 := 0#32
  let v306 : BitVec 1 := Scalar.cmpi .slt v302 c0_i32_226
  let v307 : BitVec 1 := Scalar.xori v305 v306
  let c0_i32_224 : BitVec 32 := 0#32
  let v304 : BitVec 1 := Scalar.cmpi .ne v303 c0_i32_224
  let v308 : BitVec 1 := Scalar.andi v307 v304
  let v309 : BitVec 32 := Scalar.addi v303 v302
  let v310 : BitVec 32 := Scalar.select v308 v309 v303
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v311 : BitVec 32 := Scalar.addi v310 v30
  let c1_i32_231 : BitVec 32 := 1#32
  let v312 : BitVec 32 := Scalar.muli v311 c1_i32_231
  let v313 : BitVec 32 := Scalar.addi c0_i32_232 v312
  v313.toNat
def k0_dev16 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c12_i32_237 : BitVec 32 := 12#32
  let v320 : BitVec 32 := Scalar.addi v20 c12_i32_237
  let c32_i32_238 : BitVec 32 := 32#32
  let c0_i32_239 : BitVec 32 := 0#32
  let v321 : BitVec 1 := Scalar.cmpi .eq c32_i32_238 c0_i32_239
  let c1_i32_240 : BitVec 32 := 1#32
  let v322 : BitVec 32 := Scalar.select v321 c1_i32_240 c32_i32_238
  let v323 : BitVec 32 := Scalar.remsi v320 v322
  let c0_i32_242 : BitVec 32 := 0#32
  let v325 : BitVec 1 := Scalar.cmpi .slt v323 c0_i32_242
  let c0_i32_243 : BitVec 32 := 0#32
  let v326 : BitVec 1 := Scalar.cmpi .slt v322 c0_i32_243
  let v327 : BitVec 1 := Scalar.xori v325 v326
  let c0_i32_241 : BitVec 32 := 0#32
  let v324 : BitVec 1 := Scalar.cmpi .ne v323 c0_i32_241
  let v328 : BitVec 1 := Scalar.andi v327 v324
  let v329 : BitVec 32 := Scalar.addi v323 v322
  let v330 : BitVec 32 := Scalar.select v328 v329 v323
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v331 : BitVec 32 := Scalar.addi v330 v30
  let c1_i32_248 : BitVec 32 := 1#32
  let v332 : BitVec 32 := Scalar.muli v331 c1_i32_248
  let v333 : BitVec 32 := Scalar.addi c0_i32_249 v332
  v333.toNat
def k0_dev17 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c16_i32_254 : BitVec 32 := 16#32
  let v340 : BitVec 32 := Scalar.addi v20 c16_i32_254
  let c32_i32_255 : BitVec 32 := 32#32
  let c0_i32_256 : BitVec 32 := 0#32
  let v341 : BitVec 1 := Scalar.cmpi .eq c32_i32_255 c0_i32_256
  let c1_i32_257 : BitVec 32 := 1#32
  let v342 : BitVec 32 := Scalar.select v341 c1_i32_257 c32_i32_255
  let v343 : BitVec 32 := Scalar.remsi v340 v342
  let c0_i32_259 : BitVec 32 := 0#32
  let v345 : BitVec 1 := Scalar.cmpi .slt v343 c0_i32_259
  let c0_i32_260 : BitVec 32 := 0#32
  let v346 : BitVec 1 := Scalar.cmpi .slt v342 c0_i32_260
  let v347 : BitVec 1 := Scalar.xori v345 v346
  let c0_i32_258 : BitVec 32 := 0#32
  let v344 : BitVec 1 := Scalar.cmpi .ne v343 c0_i32_258
  let v348 : BitVec 1 := Scalar.andi v347 v344
  let v349 : BitVec 32 := Scalar.addi v343 v342
  let v350 : BitVec 32 := Scalar.select v348 v349 v343
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v351 : BitVec 32 := Scalar.addi v350 v30
  let c1_i32_265 : BitVec 32 := 1#32
  let v352 : BitVec 32 := Scalar.muli v351 c1_i32_265
  let v353 : BitVec 32 := Scalar.addi c0_i32_266 v352
  v353.toNat
def k0_dev18 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c20_i32_271 : BitVec 32 := 20#32
  let v360 : BitVec 32 := Scalar.addi v20 c20_i32_271
  let c32_i32_272 : BitVec 32 := 32#32
  let c0_i32_273 : BitVec 32 := 0#32
  let v361 : BitVec 1 := Scalar.cmpi .eq c32_i32_272 c0_i32_273
  let c1_i32_274 : BitVec 32 := 1#32
  let v362 : BitVec 32 := Scalar.select v361 c1_i32_274 c32_i32_272
  let v363 : BitVec 32 := Scalar.remsi v360 v362
  let c0_i32_276 : BitVec 32 := 0#32
  let v365 : BitVec 1 := Scalar.cmpi .slt v363 c0_i32_276
  let c0_i32_277 : BitVec 32 := 0#32
  let v366 : BitVec 1 := Scalar.cmpi .slt v362 c0_i32_277
  let v367 : BitVec 1 := Scalar.xori v365 v366
  let c0_i32_275 : BitVec 32 := 0#32
  let v364 : BitVec 1 := Scalar.cmpi .ne v363 c0_i32_275
  let v368 : BitVec 1 := Scalar.andi v367 v364
  let v369 : BitVec 32 := Scalar.addi v363 v362
  let v370 : BitVec 32 := Scalar.select v368 v369 v363
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v371 : BitVec 32 := Scalar.addi v370 v30
  let c1_i32_282 : BitVec 32 := 1#32
  let v372 : BitVec 32 := Scalar.muli v371 c1_i32_282
  let v373 : BitVec 32 := Scalar.addi c0_i32_283 v372
  v373.toNat
def k0_dev19 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c24_i32_288 : BitVec 32 := 24#32
  let v380 : BitVec 32 := Scalar.addi v20 c24_i32_288
  let c32_i32_289 : BitVec 32 := 32#32
  let c0_i32_290 : BitVec 32 := 0#32
  let v381 : BitVec 1 := Scalar.cmpi .eq c32_i32_289 c0_i32_290
  let c1_i32_291 : BitVec 32 := 1#32
  let v382 : BitVec 32 := Scalar.select v381 c1_i32_291 c32_i32_289
  let v383 : BitVec 32 := Scalar.remsi v380 v382
  let c0_i32_293 : BitVec 32 := 0#32
  let v385 : BitVec 1 := Scalar.cmpi .slt v383 c0_i32_293
  let c0_i32_294 : BitVec 32 := 0#32
  let v386 : BitVec 1 := Scalar.cmpi .slt v382 c0_i32_294
  let v387 : BitVec 1 := Scalar.xori v385 v386
  let c0_i32_292 : BitVec 32 := 0#32
  let v384 : BitVec 1 := Scalar.cmpi .ne v383 c0_i32_292
  let v388 : BitVec 1 := Scalar.andi v387 v384
  let v389 : BitVec 32 := Scalar.addi v383 v382
  let v390 : BitVec 32 := Scalar.select v388 v389 v383
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v391 : BitVec 32 := Scalar.addi v390 v30
  let c1_i32_298 : BitVec 32 := 1#32
  let v392 : BitVec 32 := Scalar.muli v391 c1_i32_298
  let v393 : BitVec 32 := Scalar.addi c0_i32_299 v392
  v393.toNat
def k0_dev20 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c28_i32_304 : BitVec 32 := 28#32
  let v400 : BitVec 32 := Scalar.addi v20 c28_i32_304
  let c32_i32_305 : BitVec 32 := 32#32
  let c0_i32_306 : BitVec 32 := 0#32
  let v401 : BitVec 1 := Scalar.cmpi .eq c32_i32_305 c0_i32_306
  let c1_i32_307 : BitVec 32 := 1#32
  let v402 : BitVec 32 := Scalar.select v401 c1_i32_307 c32_i32_305
  let v403 : BitVec 32 := Scalar.remsi v400 v402
  let c0_i32_309 : BitVec 32 := 0#32
  let v405 : BitVec 1 := Scalar.cmpi .slt v403 c0_i32_309
  let c0_i32_310 : BitVec 32 := 0#32
  let v406 : BitVec 1 := Scalar.cmpi .slt v402 c0_i32_310
  let v407 : BitVec 1 := Scalar.xori v405 v406
  let c0_i32_308 : BitVec 32 := 0#32
  let v404 : BitVec 1 := Scalar.cmpi .ne v403 c0_i32_308
  let v408 : BitVec 1 := Scalar.andi v407 v404
  let v409 : BitVec 32 := Scalar.addi v403 v402
  let v410 : BitVec 32 := Scalar.select v408 v409 v403
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v411 : BitVec 32 := Scalar.addi v410 v30
  let c1_i32_314 : BitVec 32 := 1#32
  let v412 : BitVec 32 := Scalar.muli v411 c1_i32_314
  let v413 : BitVec 32 := Scalar.addi c0_i32_315 v412
  v413.toNat
def k0_dev21 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_404 : BitVec 32 := 1#32
  let v495 : BitVec 32 := Scalar.addi v30 c1_i32_404
  let c4_i32_405 : BitVec 32 := 4#32
  let c0_i32_406 : BitVec 32 := 0#32
  let v496 : BitVec 1 := Scalar.cmpi .eq c4_i32_405 c0_i32_406
  let c1_i32_407 : BitVec 32 := 1#32
  let v497 : BitVec 32 := Scalar.select v496 c1_i32_407 c4_i32_405
  let v498 : BitVec 32 := Scalar.remsi v495 v497
  let c0_i32_409 : BitVec 32 := 0#32
  let v500 : BitVec 1 := Scalar.cmpi .slt v498 c0_i32_409
  let c0_i32_410 : BitVec 32 := 0#32
  let v501 : BitVec 1 := Scalar.cmpi .slt v497 c0_i32_410
  let v502 : BitVec 1 := Scalar.xori v500 v501
  let c0_i32_408 : BitVec 32 := 0#32
  let v499 : BitVec 1 := Scalar.cmpi .ne v498 c0_i32_408
  let v503 : BitVec 1 := Scalar.andi v502 v499
  let v504 : BitVec 32 := Scalar.addi v498 v497
  let v505 : BitVec 32 := Scalar.select v503 v504 v498
  let v506 : BitVec 32 := Scalar.addi v20 v505
  let c1_i32_415 : BitVec 32 := 1#32
  let v507 : BitVec 32 := Scalar.muli v506 c1_i32_415
  let v508 : BitVec 32 := Scalar.addi c0_i32_416 v507
  v508.toNat
def k0_dev22 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_421 : BitVec 32 := 2#32
  let v515 : BitVec 32 := Scalar.addi v30 c2_i32_421
  let c4_i32_422 : BitVec 32 := 4#32
  let c0_i32_423 : BitVec 32 := 0#32
  let v516 : BitVec 1 := Scalar.cmpi .eq c4_i32_422 c0_i32_423
  let c1_i32_424 : BitVec 32 := 1#32
  let v517 : BitVec 32 := Scalar.select v516 c1_i32_424 c4_i32_422
  let v518 : BitVec 32 := Scalar.remsi v515 v517
  let c0_i32_426 : BitVec 32 := 0#32
  let v520 : BitVec 1 := Scalar.cmpi .slt v518 c0_i32_426
  let c0_i32_427 : BitVec 32 := 0#32
  let v521 : BitVec 1 := Scalar.cmpi .slt v517 c0_i32_427
  let v522 : BitVec 1 := Scalar.xori v520 v521
  let c0_i32_425 : BitVec 32 := 0#32
  let v519 : BitVec 1 := Scalar.cmpi .ne v518 c0_i32_425
  let v523 : BitVec 1 := Scalar.andi v522 v519
  let v524 : BitVec 32 := Scalar.addi v518 v517
  let v525 : BitVec 32 := Scalar.select v523 v524 v518
  let v526 : BitVec 32 := Scalar.addi v20 v525
  let c1_i32_432 : BitVec 32 := 1#32
  let v527 : BitVec 32 := Scalar.muli v526 c1_i32_432
  let v528 : BitVec 32 := Scalar.addi c0_i32_433 v527
  v528.toNat
def k0_dev23 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_438 : BitVec 32 := 3#32
  let v535 : BitVec 32 := Scalar.addi v30 c3_i32_438
  let c4_i32_439 : BitVec 32 := 4#32
  let c0_i32_440 : BitVec 32 := 0#32
  let v536 : BitVec 1 := Scalar.cmpi .eq c4_i32_439 c0_i32_440
  let c1_i32_441 : BitVec 32 := 1#32
  let v537 : BitVec 32 := Scalar.select v536 c1_i32_441 c4_i32_439
  let v538 : BitVec 32 := Scalar.remsi v535 v537
  let c0_i32_443 : BitVec 32 := 0#32
  let v540 : BitVec 1 := Scalar.cmpi .slt v538 c0_i32_443
  let c0_i32_444 : BitVec 32 := 0#32
  let v541 : BitVec 1 := Scalar.cmpi .slt v537 c0_i32_444
  let v542 : BitVec 1 := Scalar.xori v540 v541
  let c0_i32_442 : BitVec 32 := 0#32
  let v539 : BitVec 1 := Scalar.cmpi .ne v538 c0_i32_442
  let v543 : BitVec 1 := Scalar.andi v542 v539
  let v544 : BitVec 32 := Scalar.addi v538 v537
  let v545 : BitVec 32 := Scalar.select v543 v544 v538
  let v546 : BitVec 32 := Scalar.addi v20 v545
  let c1_i32_449 : BitVec 32 := 1#32
  let v547 : BitVec 32 := Scalar.muli v546 c1_i32_449
  let v548 : BitVec 32 := Scalar.addi c0_i32_450 v547
  v548.toNat
def k0_dev24 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_493 : BitVec 32 := 4#32
  let v588 : BitVec 32 := Scalar.addi v20 c4_i32_493
  let c32_i32_494 : BitVec 32 := 32#32
  let c0_i32_495 : BitVec 32 := 0#32
  let v589 : BitVec 1 := Scalar.cmpi .eq c32_i32_494 c0_i32_495
  let c1_i32_496 : BitVec 32 := 1#32
  let v590 : BitVec 32 := Scalar.select v589 c1_i32_496 c32_i32_494
  let v591 : BitVec 32 := Scalar.remsi v588 v590
  let c0_i32_498 : BitVec 32 := 0#32
  let v593 : BitVec 1 := Scalar.cmpi .slt v591 c0_i32_498
  let c0_i32_499 : BitVec 32 := 0#32
  let v594 : BitVec 1 := Scalar.cmpi .slt v590 c0_i32_499
  let v595 : BitVec 1 := Scalar.xori v593 v594
  let c0_i32_497 : BitVec 32 := 0#32
  let v592 : BitVec 1 := Scalar.cmpi .ne v591 c0_i32_497
  let v596 : BitVec 1 := Scalar.andi v595 v592
  let v597 : BitVec 32 := Scalar.addi v591 v590
  let v598 : BitVec 32 := Scalar.select v596 v597 v591
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v599 : BitVec 32 := Scalar.addi v598 v30
  let c1_i32_504 : BitVec 32 := 1#32
  let v600 : BitVec 32 := Scalar.muli v599 c1_i32_504
  let v601 : BitVec 32 := Scalar.addi c0_i32_505 v600
  v601.toNat
def k0_dev25 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c8_i32_510 : BitVec 32 := 8#32
  let v608 : BitVec 32 := Scalar.addi v20 c8_i32_510
  let c32_i32_511 : BitVec 32 := 32#32
  let c0_i32_512 : BitVec 32 := 0#32
  let v609 : BitVec 1 := Scalar.cmpi .eq c32_i32_511 c0_i32_512
  let c1_i32_513 : BitVec 32 := 1#32
  let v610 : BitVec 32 := Scalar.select v609 c1_i32_513 c32_i32_511
  let v611 : BitVec 32 := Scalar.remsi v608 v610
  let c0_i32_515 : BitVec 32 := 0#32
  let v613 : BitVec 1 := Scalar.cmpi .slt v611 c0_i32_515
  let c0_i32_516 : BitVec 32 := 0#32
  let v614 : BitVec 1 := Scalar.cmpi .slt v610 c0_i32_516
  let v615 : BitVec 1 := Scalar.xori v613 v614
  let c0_i32_514 : BitVec 32 := 0#32
  let v612 : BitVec 1 := Scalar.cmpi .ne v611 c0_i32_514
  let v616 : BitVec 1 := Scalar.andi v615 v612
  let v617 : BitVec 32 := Scalar.addi v611 v610
  let v618 : BitVec 32 := Scalar.select v616 v617 v611
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v619 : BitVec 32 := Scalar.addi v618 v30
  let c1_i32_521 : BitVec 32 := 1#32
  let v620 : BitVec 32 := Scalar.muli v619 c1_i32_521
  let v621 : BitVec 32 := Scalar.addi c0_i32_522 v620
  v621.toNat
def k0_dev26 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c12_i32_527 : BitVec 32 := 12#32
  let v628 : BitVec 32 := Scalar.addi v20 c12_i32_527
  let c32_i32_528 : BitVec 32 := 32#32
  let c0_i32_529 : BitVec 32 := 0#32
  let v629 : BitVec 1 := Scalar.cmpi .eq c32_i32_528 c0_i32_529
  let c1_i32_530 : BitVec 32 := 1#32
  let v630 : BitVec 32 := Scalar.select v629 c1_i32_530 c32_i32_528
  let v631 : BitVec 32 := Scalar.remsi v628 v630
  let c0_i32_532 : BitVec 32 := 0#32
  let v633 : BitVec 1 := Scalar.cmpi .slt v631 c0_i32_532
  let c0_i32_533 : BitVec 32 := 0#32
  let v634 : BitVec 1 := Scalar.cmpi .slt v630 c0_i32_533
  let v635 : BitVec 1 := Scalar.xori v633 v634
  let c0_i32_531 : BitVec 32 := 0#32
  let v632 : BitVec 1 := Scalar.cmpi .ne v631 c0_i32_531
  let v636 : BitVec 1 := Scalar.andi v635 v632
  let v637 : BitVec 32 := Scalar.addi v631 v630
  let v638 : BitVec 32 := Scalar.select v636 v637 v631
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v639 : BitVec 32 := Scalar.addi v638 v30
  let c1_i32_538 : BitVec 32 := 1#32
  let v640 : BitVec 32 := Scalar.muli v639 c1_i32_538
  let v641 : BitVec 32 := Scalar.addi c0_i32_539 v640
  v641.toNat
def k0_dev27 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c16_i32_544 : BitVec 32 := 16#32
  let v648 : BitVec 32 := Scalar.addi v20 c16_i32_544
  let c32_i32_545 : BitVec 32 := 32#32
  let c0_i32_546 : BitVec 32 := 0#32
  let v649 : BitVec 1 := Scalar.cmpi .eq c32_i32_545 c0_i32_546
  let c1_i32_547 : BitVec 32 := 1#32
  let v650 : BitVec 32 := Scalar.select v649 c1_i32_547 c32_i32_545
  let v651 : BitVec 32 := Scalar.remsi v648 v650
  let c0_i32_549 : BitVec 32 := 0#32
  let v653 : BitVec 1 := Scalar.cmpi .slt v651 c0_i32_549
  let c0_i32_550 : BitVec 32 := 0#32
  let v654 : BitVec 1 := Scalar.cmpi .slt v650 c0_i32_550
  let v655 : BitVec 1 := Scalar.xori v653 v654
  let c0_i32_548 : BitVec 32 := 0#32
  let v652 : BitVec 1 := Scalar.cmpi .ne v651 c0_i32_548
  let v656 : BitVec 1 := Scalar.andi v655 v652
  let v657 : BitVec 32 := Scalar.addi v651 v650
  let v658 : BitVec 32 := Scalar.select v656 v657 v651
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v659 : BitVec 32 := Scalar.addi v658 v30
  let c1_i32_555 : BitVec 32 := 1#32
  let v660 : BitVec 32 := Scalar.muli v659 c1_i32_555
  let v661 : BitVec 32 := Scalar.addi c0_i32_556 v660
  v661.toNat
def k0_dev28 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c20_i32_561 : BitVec 32 := 20#32
  let v668 : BitVec 32 := Scalar.addi v20 c20_i32_561
  let c32_i32_562 : BitVec 32 := 32#32
  let c0_i32_563 : BitVec 32 := 0#32
  let v669 : BitVec 1 := Scalar.cmpi .eq c32_i32_562 c0_i32_563
  let c1_i32_564 : BitVec 32 := 1#32
  let v670 : BitVec 32 := Scalar.select v669 c1_i32_564 c32_i32_562
  let v671 : BitVec 32 := Scalar.remsi v668 v670
  let c0_i32_566 : BitVec 32 := 0#32
  let v673 : BitVec 1 := Scalar.cmpi .slt v671 c0_i32_566
  let c0_i32_567 : BitVec 32 := 0#32
  let v674 : BitVec 1 := Scalar.cmpi .slt v670 c0_i32_567
  let v675 : BitVec 1 := Scalar.xori v673 v674
  let c0_i32_565 : BitVec 32 := 0#32
  let v672 : BitVec 1 := Scalar.cmpi .ne v671 c0_i32_565
  let v676 : BitVec 1 := Scalar.andi v675 v672
  let v677 : BitVec 32 := Scalar.addi v671 v670
  let v678 : BitVec 32 := Scalar.select v676 v677 v671
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v679 : BitVec 32 := Scalar.addi v678 v30
  let c1_i32_572 : BitVec 32 := 1#32
  let v680 : BitVec 32 := Scalar.muli v679 c1_i32_572
  let v681 : BitVec 32 := Scalar.addi c0_i32_573 v680
  v681.toNat
def k0_dev29 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c24_i32_578 : BitVec 32 := 24#32
  let v688 : BitVec 32 := Scalar.addi v20 c24_i32_578
  let c32_i32_579 : BitVec 32 := 32#32
  let c0_i32_580 : BitVec 32 := 0#32
  let v689 : BitVec 1 := Scalar.cmpi .eq c32_i32_579 c0_i32_580
  let c1_i32_581 : BitVec 32 := 1#32
  let v690 : BitVec 32 := Scalar.select v689 c1_i32_581 c32_i32_579
  let v691 : BitVec 32 := Scalar.remsi v688 v690
  let c0_i32_583 : BitVec 32 := 0#32
  let v693 : BitVec 1 := Scalar.cmpi .slt v691 c0_i32_583
  let c0_i32_584 : BitVec 32 := 0#32
  let v694 : BitVec 1 := Scalar.cmpi .slt v690 c0_i32_584
  let v695 : BitVec 1 := Scalar.xori v693 v694
  let c0_i32_582 : BitVec 32 := 0#32
  let v692 : BitVec 1 := Scalar.cmpi .ne v691 c0_i32_582
  let v696 : BitVec 1 := Scalar.andi v695 v692
  let v697 : BitVec 32 := Scalar.addi v691 v690
  let v698 : BitVec 32 := Scalar.select v696 v697 v691
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v699 : BitVec 32 := Scalar.addi v698 v30
  let c1_i32_589 : BitVec 32 := 1#32
  let v700 : BitVec 32 := Scalar.muli v699 c1_i32_589
  let v701 : BitVec 32 := Scalar.addi c0_i32_590 v700
  v701.toNat
def k0_dev30 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c28_i32_595 : BitVec 32 := 28#32
  let v708 : BitVec 32 := Scalar.addi v20 c28_i32_595
  let c32_i32_596 : BitVec 32 := 32#32
  let c0_i32_597 : BitVec 32 := 0#32
  let v709 : BitVec 1 := Scalar.cmpi .eq c32_i32_596 c0_i32_597
  let c1_i32_598 : BitVec 32 := 1#32
  let v710 : BitVec 32 := Scalar.select v709 c1_i32_598 c32_i32_596
  let v711 : BitVec 32 := Scalar.remsi v708 v710
  let c0_i32_600 : BitVec 32 := 0#32
  let v713 : BitVec 1 := Scalar.cmpi .slt v711 c0_i32_600
  let c0_i32_601 : BitVec 32 := 0#32
  let v714 : BitVec 1 := Scalar.cmpi .slt v710 c0_i32_601
  let v715 : BitVec 1 := Scalar.xori v713 v714
  let c0_i32_599 : BitVec 32 := 0#32
  let v712 : BitVec 1 := Scalar.cmpi .ne v711 c0_i32_599
  let v716 : BitVec 1 := Scalar.andi v715 v712
  let v717 : BitVec 32 := Scalar.addi v711 v710
  let v718 : BitVec 32 := Scalar.select v716 v717 v711
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v719 : BitVec 32 := Scalar.addi v718 v30
  let c1_i32_606 : BitVec 32 := 1#32
  let v720 : BitVec 32 := Scalar.muli v719 c1_i32_606
  let v721 : BitVec 32 := Scalar.addi c0_i32_607 v720
  v721.toNat
def k0_off1 (d0 : Dev nD) (c1_i32_696 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v802 : BitVec 32 := Scalar.addi v2 c1_i32_696
  let c32_i32_697 : BitVec 32 := 32#32
  let c0_i32_698 : BitVec 32 := 0#32
  let v803 : BitVec 1 := Scalar.cmpi .eq c32_i32_697 c0_i32_698
  let c1_i32_699 : BitVec 32 := 1#32
  let v804 : BitVec 32 := Scalar.select v803 c1_i32_699 c32_i32_697
  let v805 : BitVec 32 := Scalar.remsi v802 v804
  let c0_i32_701 : BitVec 32 := 0#32
  let v807 : BitVec 1 := Scalar.cmpi .slt v805 c0_i32_701
  let c0_i32_702 : BitVec 32 := 0#32
  let v808 : BitVec 1 := Scalar.cmpi .slt v804 c0_i32_702
  let v809 : BitVec 1 := Scalar.xori v807 v808
  let c0_i32_700 : BitVec 32 := 0#32
  let v806 : BitVec 1 := Scalar.cmpi .ne v805 c0_i32_700
  let v810 : BitVec 1 := Scalar.andi v809 v806
  let v811 : BitVec 32 := Scalar.addi v805 v804
  let v812 : BitVec 32 := Scalar.select v810 v811 v805
  let c4_i32_703 : BitVec 32 := 4#32
  let v813 : BitVec 32 := Scalar.muli v812 c4_i32_703
  let c0_i32_709 : BitVec 32 := 0#32
  ![v813.toNat, 0]
def k0_dev31 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_696 : BitVec 32 := 1#32
  let v802 : BitVec 32 := Scalar.addi v2 c1_i32_696
  let c32_i32_697 : BitVec 32 := 32#32
  let c0_i32_698 : BitVec 32 := 0#32
  let v803 : BitVec 1 := Scalar.cmpi .eq c32_i32_697 c0_i32_698
  let c1_i32_699 : BitVec 32 := 1#32
  let v804 : BitVec 32 := Scalar.select v803 c1_i32_699 c32_i32_697
  let v805 : BitVec 32 := Scalar.remsi v802 v804
  let c0_i32_701 : BitVec 32 := 0#32
  let v807 : BitVec 1 := Scalar.cmpi .slt v805 c0_i32_701
  let c0_i32_702 : BitVec 32 := 0#32
  let v808 : BitVec 1 := Scalar.cmpi .slt v804 c0_i32_702
  let v809 : BitVec 1 := Scalar.xori v807 v808
  let c0_i32_700 : BitVec 32 := 0#32
  let v806 : BitVec 1 := Scalar.cmpi .ne v805 c0_i32_700
  let v810 : BitVec 1 := Scalar.andi v809 v806
  let v811 : BitVec 32 := Scalar.addi v805 v804
  let v812 : BitVec 32 := Scalar.select v810 v811 v805
  let c1_i32_705 : BitVec 32 := 1#32
  let v814 : BitVec 32 := Scalar.muli v812 c1_i32_705
  let v815 : BitVec 32 := Scalar.addi c0_i32_706 v814
  v815.toNat
def k0_dev32 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_710 : BitVec 32 := 2#32
  let v819 : BitVec 32 := Scalar.addi v2 c2_i32_710
  let c32_i32_711 : BitVec 32 := 32#32
  let c0_i32_712 : BitVec 32 := 0#32
  let v820 : BitVec 1 := Scalar.cmpi .eq c32_i32_711 c0_i32_712
  let c1_i32_713 : BitVec 32 := 1#32
  let v821 : BitVec 32 := Scalar.select v820 c1_i32_713 c32_i32_711
  let v822 : BitVec 32 := Scalar.remsi v819 v821
  let c0_i32_715 : BitVec 32 := 0#32
  let v824 : BitVec 1 := Scalar.cmpi .slt v822 c0_i32_715
  let c0_i32_716 : BitVec 32 := 0#32
  let v825 : BitVec 1 := Scalar.cmpi .slt v821 c0_i32_716
  let v826 : BitVec 1 := Scalar.xori v824 v825
  let c0_i32_714 : BitVec 32 := 0#32
  let v823 : BitVec 1 := Scalar.cmpi .ne v822 c0_i32_714
  let v827 : BitVec 1 := Scalar.andi v826 v823
  let v828 : BitVec 32 := Scalar.addi v822 v821
  let v829 : BitVec 32 := Scalar.select v827 v828 v822
  let c1_i32_719 : BitVec 32 := 1#32
  let v831 : BitVec 32 := Scalar.muli v829 c1_i32_719
  let v832 : BitVec 32 := Scalar.addi c0_i32_720 v831
  v832.toNat
def k0_dev33 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_724 : BitVec 32 := 3#32
  let v836 : BitVec 32 := Scalar.addi v2 c3_i32_724
  let c32_i32_725 : BitVec 32 := 32#32
  let c0_i32_726 : BitVec 32 := 0#32
  let v837 : BitVec 1 := Scalar.cmpi .eq c32_i32_725 c0_i32_726
  let c1_i32_727 : BitVec 32 := 1#32
  let v838 : BitVec 32 := Scalar.select v837 c1_i32_727 c32_i32_725
  let v839 : BitVec 32 := Scalar.remsi v836 v838
  let c0_i32_729 : BitVec 32 := 0#32
  let v841 : BitVec 1 := Scalar.cmpi .slt v839 c0_i32_729
  let c0_i32_730 : BitVec 32 := 0#32
  let v842 : BitVec 1 := Scalar.cmpi .slt v838 c0_i32_730
  let v843 : BitVec 1 := Scalar.xori v841 v842
  let c0_i32_728 : BitVec 32 := 0#32
  let v840 : BitVec 1 := Scalar.cmpi .ne v839 c0_i32_728
  let v844 : BitVec 1 := Scalar.andi v843 v840
  let v845 : BitVec 32 := Scalar.addi v839 v838
  let v846 : BitVec 32 := Scalar.select v844 v845 v839
  let c1_i32_733 : BitVec 32 := 1#32
  let v848 : BitVec 32 := Scalar.muli v846 c1_i32_733
  let v849 : BitVec 32 := Scalar.addi c0_i32_734 v848
  v849.toNat
def k0_dev34 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_738 : BitVec 32 := 4#32
  let v853 : BitVec 32 := Scalar.addi v2 c4_i32_738
  let c32_i32_739 : BitVec 32 := 32#32
  let c0_i32_740 : BitVec 32 := 0#32
  let v854 : BitVec 1 := Scalar.cmpi .eq c32_i32_739 c0_i32_740
  let c1_i32_741 : BitVec 32 := 1#32
  let v855 : BitVec 32 := Scalar.select v854 c1_i32_741 c32_i32_739
  let v856 : BitVec 32 := Scalar.remsi v853 v855
  let c0_i32_743 : BitVec 32 := 0#32
  let v858 : BitVec 1 := Scalar.cmpi .slt v856 c0_i32_743
  let c0_i32_744 : BitVec 32 := 0#32
  let v859 : BitVec 1 := Scalar.cmpi .slt v855 c0_i32_744
  let v860 : BitVec 1 := Scalar.xori v858 v859
  let c0_i32_742 : BitVec 32 := 0#32
  let v857 : BitVec 1 := Scalar.cmpi .ne v856 c0_i32_742
  let v861 : BitVec 1 := Scalar.andi v860 v857
  let v862 : BitVec 32 := Scalar.addi v856 v855
  let v863 : BitVec 32 := Scalar.select v861 v862 v856
  let c1_i32_747 : BitVec 32 := 1#32
  let v865 : BitVec 32 := Scalar.muli v863 c1_i32_747
  let v866 : BitVec 32 := Scalar.addi c0_i32_748 v865
  v866.toNat
def k0_dev35 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_752 : BitVec 32 := 5#32
  let v870 : BitVec 32 := Scalar.addi v2 c5_i32_752
  let c32_i32_753 : BitVec 32 := 32#32
  let c0_i32_754 : BitVec 32 := 0#32
  let v871 : BitVec 1 := Scalar.cmpi .eq c32_i32_753 c0_i32_754
  let c1_i32_755 : BitVec 32 := 1#32
  let v872 : BitVec 32 := Scalar.select v871 c1_i32_755 c32_i32_753
  let v873 : BitVec 32 := Scalar.remsi v870 v872
  let c0_i32_757 : BitVec 32 := 0#32
  let v875 : BitVec 1 := Scalar.cmpi .slt v873 c0_i32_757
  let c0_i32_758 : BitVec 32 := 0#32
  let v876 : BitVec 1 := Scalar.cmpi .slt v872 c0_i32_758
  let v877 : BitVec 1 := Scalar.xori v875 v876
  let c0_i32_756 : BitVec 32 := 0#32
  let v874 : BitVec 1 := Scalar.cmpi .ne v873 c0_i32_756
  let v878 : BitVec 1 := Scalar.andi v877 v874
  let v879 : BitVec 32 := Scalar.addi v873 v872
  let v880 : BitVec 32 := Scalar.select v878 v879 v873
  let c1_i32_761 : BitVec 32 := 1#32
  let v882 : BitVec 32 := Scalar.muli v880 c1_i32_761
  let v883 : BitVec 32 := Scalar.addi c0_i32_762 v882
  v883.toNat
def k0_dev36 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_766 : BitVec 32 := 6#32
  let v887 : BitVec 32 := Scalar.addi v2 c6_i32_766
  let c32_i32_767 : BitVec 32 := 32#32
  let c0_i32_768 : BitVec 32 := 0#32
  let v888 : BitVec 1 := Scalar.cmpi .eq c32_i32_767 c0_i32_768
  let c1_i32_769 : BitVec 32 := 1#32
  let v889 : BitVec 32 := Scalar.select v888 c1_i32_769 c32_i32_767
  let v890 : BitVec 32 := Scalar.remsi v887 v889
  let c0_i32_771 : BitVec 32 := 0#32
  let v892 : BitVec 1 := Scalar.cmpi .slt v890 c0_i32_771
  let c0_i32_772 : BitVec 32 := 0#32
  let v893 : BitVec 1 := Scalar.cmpi .slt v889 c0_i32_772
  let v894 : BitVec 1 := Scalar.xori v892 v893
  let c0_i32_770 : BitVec 32 := 0#32
  let v891 : BitVec 1 := Scalar.cmpi .ne v890 c0_i32_770
  let v895 : BitVec 1 := Scalar.andi v894 v891
  let v896 : BitVec 32 := Scalar.addi v890 v889
  let v897 : BitVec 32 := Scalar.select v895 v896 v890
  let c1_i32_775 : BitVec 32 := 1#32
  let v899 : BitVec 32 := Scalar.muli v897 c1_i32_775
  let v900 : BitVec 32 := Scalar.addi c0_i32_776 v899
  v900.toNat
def k0_dev37 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v904 : BitVec 32 := Scalar.addi v2 c7_i32
  let c32_i32_780 : BitVec 32 := 32#32
  let c0_i32_781 : BitVec 32 := 0#32
  let v905 : BitVec 1 := Scalar.cmpi .eq c32_i32_780 c0_i32_781
  let c1_i32_782 : BitVec 32 := 1#32
  let v906 : BitVec 32 := Scalar.select v905 c1_i32_782 c32_i32_780
  let v907 : BitVec 32 := Scalar.remsi v904 v906
  let c0_i32_784 : BitVec 32 := 0#32
  let v909 : BitVec 1 := Scalar.cmpi .slt v907 c0_i32_784
  let c0_i32_785 : BitVec 32 := 0#32
  let v910 : BitVec 1 := Scalar.cmpi .slt v906 c0_i32_785
  let v911 : BitVec 1 := Scalar.xori v909 v910
  let c0_i32_783 : BitVec 32 := 0#32
  let v908 : BitVec 1 := Scalar.cmpi .ne v907 c0_i32_783
  let v912 : BitVec 1 := Scalar.andi v911 v908
  let v913 : BitVec 32 := Scalar.addi v907 v906
  let v914 : BitVec 32 := Scalar.select v912 v913 v907
  let c1_i32_788 : BitVec 32 := 1#32
  let v916 : BitVec 32 := Scalar.muli v914 c1_i32_788
  let v917 : BitVec 32 := Scalar.addi c0_i32_789 v916
  v917.toNat
def k0_dev38 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_793 : BitVec 32 := 8#32
  let v921 : BitVec 32 := Scalar.addi v2 c8_i32_793
  let c32_i32_794 : BitVec 32 := 32#32
  let c0_i32_795 : BitVec 32 := 0#32
  let v922 : BitVec 1 := Scalar.cmpi .eq c32_i32_794 c0_i32_795
  let c1_i32_796 : BitVec 32 := 1#32
  let v923 : BitVec 32 := Scalar.select v922 c1_i32_796 c32_i32_794
  let v924 : BitVec 32 := Scalar.remsi v921 v923
  let c0_i32_798 : BitVec 32 := 0#32
  let v926 : BitVec 1 := Scalar.cmpi .slt v924 c0_i32_798
  let c0_i32_799 : BitVec 32 := 0#32
  let v927 : BitVec 1 := Scalar.cmpi .slt v923 c0_i32_799
  let v928 : BitVec 1 := Scalar.xori v926 v927
  let c0_i32_797 : BitVec 32 := 0#32
  let v925 : BitVec 1 := Scalar.cmpi .ne v924 c0_i32_797
  let v929 : BitVec 1 := Scalar.andi v928 v925
  let v930 : BitVec 32 := Scalar.addi v924 v923
  let v931 : BitVec 32 := Scalar.select v929 v930 v924
  let c1_i32_802 : BitVec 32 := 1#32
  let v933 : BitVec 32 := Scalar.muli v931 c1_i32_802
  let v934 : BitVec 32 := Scalar.addi c0_i32_803 v933
  v934.toNat
def k0_dev39 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v938 : BitVec 32 := Scalar.addi v2 c9_i32
  let c32_i32_807 : BitVec 32 := 32#32
  let c0_i32_808 : BitVec 32 := 0#32
  let v939 : BitVec 1 := Scalar.cmpi .eq c32_i32_807 c0_i32_808
  let c1_i32_809 : BitVec 32 := 1#32
  let v940 : BitVec 32 := Scalar.select v939 c1_i32_809 c32_i32_807
  let v941 : BitVec 32 := Scalar.remsi v938 v940
  let c0_i32_811 : BitVec 32 := 0#32
  let v943 : BitVec 1 := Scalar.cmpi .slt v941 c0_i32_811
  let c0_i32_812 : BitVec 32 := 0#32
  let v944 : BitVec 1 := Scalar.cmpi .slt v940 c0_i32_812
  let v945 : BitVec 1 := Scalar.xori v943 v944
  let c0_i32_810 : BitVec 32 := 0#32
  let v942 : BitVec 1 := Scalar.cmpi .ne v941 c0_i32_810
  let v946 : BitVec 1 := Scalar.andi v945 v942
  let v947 : BitVec 32 := Scalar.addi v941 v940
  let v948 : BitVec 32 := Scalar.select v946 v947 v941
  let c1_i32_815 : BitVec 32 := 1#32
  let v950 : BitVec 32 := Scalar.muli v948 c1_i32_815
  let v951 : BitVec 32 := Scalar.addi c0_i32_816 v950
  v951.toNat
def k0_dev40 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_820 : BitVec 32 := 10#32
  let v955 : BitVec 32 := Scalar.addi v2 c10_i32_820
  let c32_i32_821 : BitVec 32 := 32#32
  let c0_i32_822 : BitVec 32 := 0#32
  let v956 : BitVec 1 := Scalar.cmpi .eq c32_i32_821 c0_i32_822
  let c1_i32_823 : BitVec 32 := 1#32
  let v957 : BitVec 32 := Scalar.select v956 c1_i32_823 c32_i32_821
  let v958 : BitVec 32 := Scalar.remsi v955 v957
  let c0_i32_825 : BitVec 32 := 0#32
  let v960 : BitVec 1 := Scalar.cmpi .slt v958 c0_i32_825
  let c0_i32_826 : BitVec 32 := 0#32
  let v961 : BitVec 1 := Scalar.cmpi .slt v957 c0_i32_826
  let v962 : BitVec 1 := Scalar.xori v960 v961
  let c0_i32_824 : BitVec 32 := 0#32
  let v959 : BitVec 1 := Scalar.cmpi .ne v958 c0_i32_824
  let v963 : BitVec 1 := Scalar.andi v962 v959
  let v964 : BitVec 32 := Scalar.addi v958 v957
  let v965 : BitVec 32 := Scalar.select v963 v964 v958
  let c1_i32_829 : BitVec 32 := 1#32
  let v967 : BitVec 32 := Scalar.muli v965 c1_i32_829
  let v968 : BitVec 32 := Scalar.addi c0_i32_830 v967
  v968.toNat
def k0_dev41 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v972 : BitVec 32 := Scalar.addi v2 c11_i32
  let c32_i32_834 : BitVec 32 := 32#32
  let c0_i32_835 : BitVec 32 := 0#32
  let v973 : BitVec 1 := Scalar.cmpi .eq c32_i32_834 c0_i32_835
  let c1_i32_836 : BitVec 32 := 1#32
  let v974 : BitVec 32 := Scalar.select v973 c1_i32_836 c32_i32_834
  let v975 : BitVec 32 := Scalar.remsi v972 v974
  let c0_i32_838 : BitVec 32 := 0#32
  let v977 : BitVec 1 := Scalar.cmpi .slt v975 c0_i32_838
  let c0_i32_839 : BitVec 32 := 0#32
  let v978 : BitVec 1 := Scalar.cmpi .slt v974 c0_i32_839
  let v979 : BitVec 1 := Scalar.xori v977 v978
  let c0_i32_837 : BitVec 32 := 0#32
  let v976 : BitVec 1 := Scalar.cmpi .ne v975 c0_i32_837
  let v980 : BitVec 1 := Scalar.andi v979 v976
  let v981 : BitVec 32 := Scalar.addi v975 v974
  let v982 : BitVec 32 := Scalar.select v980 v981 v975
  let c1_i32_842 : BitVec 32 := 1#32
  let v984 : BitVec 32 := Scalar.muli v982 c1_i32_842
  let v985 : BitVec 32 := Scalar.addi c0_i32_843 v984
  v985.toNat
def k0_dev42 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_847 : BitVec 32 := 12#32
  let v989 : BitVec 32 := Scalar.addi v2 c12_i32_847
  let c32_i32_848 : BitVec 32 := 32#32
  let c0_i32_849 : BitVec 32 := 0#32
  let v990 : BitVec 1 := Scalar.cmpi .eq c32_i32_848 c0_i32_849
  let c1_i32_850 : BitVec 32 := 1#32
  let v991 : BitVec 32 := Scalar.select v990 c1_i32_850 c32_i32_848
  let v992 : BitVec 32 := Scalar.remsi v989 v991
  let c0_i32_852 : BitVec 32 := 0#32
  let v994 : BitVec 1 := Scalar.cmpi .slt v992 c0_i32_852
  let c0_i32_853 : BitVec 32 := 0#32
  let v995 : BitVec 1 := Scalar.cmpi .slt v991 c0_i32_853
  let v996 : BitVec 1 := Scalar.xori v994 v995
  let c0_i32_851 : BitVec 32 := 0#32
  let v993 : BitVec 1 := Scalar.cmpi .ne v992 c0_i32_851
  let v997 : BitVec 1 := Scalar.andi v996 v993
  let v998 : BitVec 32 := Scalar.addi v992 v991
  let v999 : BitVec 32 := Scalar.select v997 v998 v992
  let c1_i32_856 : BitVec 32 := 1#32
  let v1001 : BitVec 32 := Scalar.muli v999 c1_i32_856
  let v1002 : BitVec 32 := Scalar.addi c0_i32_857 v1001
  v1002.toNat
def k0_dev43 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v1006 : BitVec 32 := Scalar.addi v2 c13_i32
  let c32_i32_861 : BitVec 32 := 32#32
  let c0_i32_862 : BitVec 32 := 0#32
  let v1007 : BitVec 1 := Scalar.cmpi .eq c32_i32_861 c0_i32_862
  let c1_i32_863 : BitVec 32 := 1#32
  let v1008 : BitVec 32 := Scalar.select v1007 c1_i32_863 c32_i32_861
  let v1009 : BitVec 32 := Scalar.remsi v1006 v1008
  let c0_i32_865 : BitVec 32 := 0#32
  let v1011 : BitVec 1 := Scalar.cmpi .slt v1009 c0_i32_865
  let c0_i32_866 : BitVec 32 := 0#32
  let v1012 : BitVec 1 := Scalar.cmpi .slt v1008 c0_i32_866
  let v1013 : BitVec 1 := Scalar.xori v1011 v1012
  let c0_i32_864 : BitVec 32 := 0#32
  let v1010 : BitVec 1 := Scalar.cmpi .ne v1009 c0_i32_864
  let v1014 : BitVec 1 := Scalar.andi v1013 v1010
  let v1015 : BitVec 32 := Scalar.addi v1009 v1008
  let v1016 : BitVec 32 := Scalar.select v1014 v1015 v1009
  let c1_i32_869 : BitVec 32 := 1#32
  let v1018 : BitVec 32 := Scalar.muli v1016 c1_i32_869
  let v1019 : BitVec 32 := Scalar.addi c0_i32_870 v1018
  v1019.toNat
def k0_dev44 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v1023 : BitVec 32 := Scalar.addi v2 c14_i32
  let c32_i32_874 : BitVec 32 := 32#32
  let c0_i32_875 : BitVec 32 := 0#32
  let v1024 : BitVec 1 := Scalar.cmpi .eq c32_i32_874 c0_i32_875
  let c1_i32_876 : BitVec 32 := 1#32
  let v1025 : BitVec 32 := Scalar.select v1024 c1_i32_876 c32_i32_874
  let v1026 : BitVec 32 := Scalar.remsi v1023 v1025
  let c0_i32_878 : BitVec 32 := 0#32
  let v1028 : BitVec 1 := Scalar.cmpi .slt v1026 c0_i32_878
  let c0_i32_879 : BitVec 32 := 0#32
  let v1029 : BitVec 1 := Scalar.cmpi .slt v1025 c0_i32_879
  let v1030 : BitVec 1 := Scalar.xori v1028 v1029
  let c0_i32_877 : BitVec 32 := 0#32
  let v1027 : BitVec 1 := Scalar.cmpi .ne v1026 c0_i32_877
  let v1031 : BitVec 1 := Scalar.andi v1030 v1027
  let v1032 : BitVec 32 := Scalar.addi v1026 v1025
  let v1033 : BitVec 32 := Scalar.select v1031 v1032 v1026
  let c1_i32_882 : BitVec 32 := 1#32
  let v1035 : BitVec 32 := Scalar.muli v1033 c1_i32_882
  let v1036 : BitVec 32 := Scalar.addi c0_i32_883 v1035
  v1036.toNat
def k0_dev45 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v1040 : BitVec 32 := Scalar.addi v2 c15_i32
  let c32_i32_887 : BitVec 32 := 32#32
  let c0_i32_888 : BitVec 32 := 0#32
  let v1041 : BitVec 1 := Scalar.cmpi .eq c32_i32_887 c0_i32_888
  let c1_i32_889 : BitVec 32 := 1#32
  let v1042 : BitVec 32 := Scalar.select v1041 c1_i32_889 c32_i32_887
  let v1043 : BitVec 32 := Scalar.remsi v1040 v1042
  let c0_i32_891 : BitVec 32 := 0#32
  let v1045 : BitVec 1 := Scalar.cmpi .slt v1043 c0_i32_891
  let c0_i32_892 : BitVec 32 := 0#32
  let v1046 : BitVec 1 := Scalar.cmpi .slt v1042 c0_i32_892
  let v1047 : BitVec 1 := Scalar.xori v1045 v1046
  let c0_i32_890 : BitVec 32 := 0#32
  let v1044 : BitVec 1 := Scalar.cmpi .ne v1043 c0_i32_890
  let v1048 : BitVec 1 := Scalar.andi v1047 v1044
  let v1049 : BitVec 32 := Scalar.addi v1043 v1042
  let v1050 : BitVec 32 := Scalar.select v1048 v1049 v1043
  let c1_i32_895 : BitVec 32 := 1#32
  let v1052 : BitVec 32 := Scalar.muli v1050 c1_i32_895
  let v1053 : BitVec 32 := Scalar.addi c0_i32_896 v1052
  v1053.toNat
def k0_dev46 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_900 : BitVec 32 := 16#32
  let v1057 : BitVec 32 := Scalar.addi v2 c16_i32_900
  let c32_i32_901 : BitVec 32 := 32#32
  let c0_i32_902 : BitVec 32 := 0#32
  let v1058 : BitVec 1 := Scalar.cmpi .eq c32_i32_901 c0_i32_902
  let c1_i32_903 : BitVec 32 := 1#32
  let v1059 : BitVec 32 := Scalar.select v1058 c1_i32_903 c32_i32_901
  let v1060 : BitVec 32 := Scalar.remsi v1057 v1059
  let c0_i32_905 : BitVec 32 := 0#32
  let v1062 : BitVec 1 := Scalar.cmpi .slt v1060 c0_i32_905
  let c0_i32_906 : BitVec 32 := 0#32
  let v1063 : BitVec 1 := Scalar.cmpi .slt v1059 c0_i32_906
  let v1064 : BitVec 1 := Scalar.xori v1062 v1063
  let c0_i32_904 : BitVec 32 := 0#32
  let v1061 : BitVec 1 := Scalar.cmpi .ne v1060 c0_i32_904
  let v1065 : BitVec 1 := Scalar.andi v1064 v1061
  let v1066 : BitVec 32 := Scalar.addi v1060 v1059
  let v1067 : BitVec 32 := Scalar.select v1065 v1066 v1060
  let c1_i32_909 : BitVec 32 := 1#32
  let v1069 : BitVec 32 := Scalar.muli v1067 c1_i32_909
  let v1070 : BitVec 32 := Scalar.addi c0_i32_910 v1069
  v1070.toNat
def k0_dev47 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v1074 : BitVec 32 := Scalar.addi v2 c17_i32
  let c32_i32_914 : BitVec 32 := 32#32
  let c0_i32_915 : BitVec 32 := 0#32
  let v1075 : BitVec 1 := Scalar.cmpi .eq c32_i32_914 c0_i32_915
  let c1_i32_916 : BitVec 32 := 1#32
  let v1076 : BitVec 32 := Scalar.select v1075 c1_i32_916 c32_i32_914
  let v1077 : BitVec 32 := Scalar.remsi v1074 v1076
  let c0_i32_918 : BitVec 32 := 0#32
  let v1079 : BitVec 1 := Scalar.cmpi .slt v1077 c0_i32_918
  let c0_i32_919 : BitVec 32 := 0#32
  let v1080 : BitVec 1 := Scalar.cmpi .slt v1076 c0_i32_919
  let v1081 : BitVec 1 := Scalar.xori v1079 v1080
  let c0_i32_917 : BitVec 32 := 0#32
  let v1078 : BitVec 1 := Scalar.cmpi .ne v1077 c0_i32_917
  let v1082 : BitVec 1 := Scalar.andi v1081 v1078
  let v1083 : BitVec 32 := Scalar.addi v1077 v1076
  let v1084 : BitVec 32 := Scalar.select v1082 v1083 v1077
  let c1_i32_922 : BitVec 32 := 1#32
  let v1086 : BitVec 32 := Scalar.muli v1084 c1_i32_922
  let v1087 : BitVec 32 := Scalar.addi c0_i32_923 v1086
  v1087.toNat
def k0_dev48 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v1091 : BitVec 32 := Scalar.addi v2 c18_i32
  let c32_i32_927 : BitVec 32 := 32#32
  let c0_i32_928 : BitVec 32 := 0#32
  let v1092 : BitVec 1 := Scalar.cmpi .eq c32_i32_927 c0_i32_928
  let c1_i32_929 : BitVec 32 := 1#32
  let v1093 : BitVec 32 := Scalar.select v1092 c1_i32_929 c32_i32_927
  let v1094 : BitVec 32 := Scalar.remsi v1091 v1093
  let c0_i32_931 : BitVec 32 := 0#32
  let v1096 : BitVec 1 := Scalar.cmpi .slt v1094 c0_i32_931
  let c0_i32_932 : BitVec 32 := 0#32
  let v1097 : BitVec 1 := Scalar.cmpi .slt v1093 c0_i32_932
  let v1098 : BitVec 1 := Scalar.xori v1096 v1097
  let c0_i32_930 : BitVec 32 := 0#32
  let v1095 : BitVec 1 := Scalar.cmpi .ne v1094 c0_i32_930
  let v1099 : BitVec 1 := Scalar.andi v1098 v1095
  let v1100 : BitVec 32 := Scalar.addi v1094 v1093
  let v1101 : BitVec 32 := Scalar.select v1099 v1100 v1094
  let c1_i32_935 : BitVec 32 := 1#32
  let v1103 : BitVec 32 := Scalar.muli v1101 c1_i32_935
  let v1104 : BitVec 32 := Scalar.addi c0_i32_936 v1103
  v1104.toNat
def k0_dev49 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v1108 : BitVec 32 := Scalar.addi v2 c19_i32
  let c32_i32_940 : BitVec 32 := 32#32
  let c0_i32_941 : BitVec 32 := 0#32
  let v1109 : BitVec 1 := Scalar.cmpi .eq c32_i32_940 c0_i32_941
  let c1_i32_942 : BitVec 32 := 1#32
  let v1110 : BitVec 32 := Scalar.select v1109 c1_i32_942 c32_i32_940
  let v1111 : BitVec 32 := Scalar.remsi v1108 v1110
  let c0_i32_944 : BitVec 32 := 0#32
  let v1113 : BitVec 1 := Scalar.cmpi .slt v1111 c0_i32_944
  let c0_i32_945 : BitVec 32 := 0#32
  let v1114 : BitVec 1 := Scalar.cmpi .slt v1110 c0_i32_945
  let v1115 : BitVec 1 := Scalar.xori v1113 v1114
  let c0_i32_943 : BitVec 32 := 0#32
  let v1112 : BitVec 1 := Scalar.cmpi .ne v1111 c0_i32_943
  let v1116 : BitVec 1 := Scalar.andi v1115 v1112
  let v1117 : BitVec 32 := Scalar.addi v1111 v1110
  let v1118 : BitVec 32 := Scalar.select v1116 v1117 v1111
  let c1_i32_948 : BitVec 32 := 1#32
  let v1120 : BitVec 32 := Scalar.muli v1118 c1_i32_948
  let v1121 : BitVec 32 := Scalar.addi c0_i32_949 v1120
  v1121.toNat
def k0_dev50 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_953 : BitVec 32 := 20#32
  let v1125 : BitVec 32 := Scalar.addi v2 c20_i32_953
  let c32_i32_954 : BitVec 32 := 32#32
  let c0_i32_955 : BitVec 32 := 0#32
  let v1126 : BitVec 1 := Scalar.cmpi .eq c32_i32_954 c0_i32_955
  let c1_i32_956 : BitVec 32 := 1#32
  let v1127 : BitVec 32 := Scalar.select v1126 c1_i32_956 c32_i32_954
  let v1128 : BitVec 32 := Scalar.remsi v1125 v1127
  let c0_i32_958 : BitVec 32 := 0#32
  let v1130 : BitVec 1 := Scalar.cmpi .slt v1128 c0_i32_958
  let c0_i32_959 : BitVec 32 := 0#32
  let v1131 : BitVec 1 := Scalar.cmpi .slt v1127 c0_i32_959
  let v1132 : BitVec 1 := Scalar.xori v1130 v1131
  let c0_i32_957 : BitVec 32 := 0#32
  let v1129 : BitVec 1 := Scalar.cmpi .ne v1128 c0_i32_957
  let v1133 : BitVec 1 := Scalar.andi v1132 v1129
  let v1134 : BitVec 32 := Scalar.addi v1128 v1127
  let v1135 : BitVec 32 := Scalar.select v1133 v1134 v1128
  let c1_i32_962 : BitVec 32 := 1#32
  let v1137 : BitVec 32 := Scalar.muli v1135 c1_i32_962
  let v1138 : BitVec 32 := Scalar.addi c0_i32_963 v1137
  v1138.toNat
def k0_dev51 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v1142 : BitVec 32 := Scalar.addi v2 c21_i32
  let c32_i32_967 : BitVec 32 := 32#32
  let c0_i32_968 : BitVec 32 := 0#32
  let v1143 : BitVec 1 := Scalar.cmpi .eq c32_i32_967 c0_i32_968
  let c1_i32_969 : BitVec 32 := 1#32
  let v1144 : BitVec 32 := Scalar.select v1143 c1_i32_969 c32_i32_967
  let v1145 : BitVec 32 := Scalar.remsi v1142 v1144
  let c0_i32_971 : BitVec 32 := 0#32
  let v1147 : BitVec 1 := Scalar.cmpi .slt v1145 c0_i32_971
  let c0_i32_972 : BitVec 32 := 0#32
  let v1148 : BitVec 1 := Scalar.cmpi .slt v1144 c0_i32_972
  let v1149 : BitVec 1 := Scalar.xori v1147 v1148
  let c0_i32_970 : BitVec 32 := 0#32
  let v1146 : BitVec 1 := Scalar.cmpi .ne v1145 c0_i32_970
  let v1150 : BitVec 1 := Scalar.andi v1149 v1146
  let v1151 : BitVec 32 := Scalar.addi v1145 v1144
  let v1152 : BitVec 32 := Scalar.select v1150 v1151 v1145
  let c1_i32_975 : BitVec 32 := 1#32
  let v1154 : BitVec 32 := Scalar.muli v1152 c1_i32_975
  let v1155 : BitVec 32 := Scalar.addi c0_i32_976 v1154
  v1155.toNat
def k0_dev52 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v1159 : BitVec 32 := Scalar.addi v2 c22_i32
  let c32_i32_980 : BitVec 32 := 32#32
  let c0_i32_981 : BitVec 32 := 0#32
  let v1160 : BitVec 1 := Scalar.cmpi .eq c32_i32_980 c0_i32_981
  let c1_i32_982 : BitVec 32 := 1#32
  let v1161 : BitVec 32 := Scalar.select v1160 c1_i32_982 c32_i32_980
  let v1162 : BitVec 32 := Scalar.remsi v1159 v1161
  let c0_i32_984 : BitVec 32 := 0#32
  let v1164 : BitVec 1 := Scalar.cmpi .slt v1162 c0_i32_984
  let c0_i32_985 : BitVec 32 := 0#32
  let v1165 : BitVec 1 := Scalar.cmpi .slt v1161 c0_i32_985
  let v1166 : BitVec 1 := Scalar.xori v1164 v1165
  let c0_i32_983 : BitVec 32 := 0#32
  let v1163 : BitVec 1 := Scalar.cmpi .ne v1162 c0_i32_983
  let v1167 : BitVec 1 := Scalar.andi v1166 v1163
  let v1168 : BitVec 32 := Scalar.addi v1162 v1161
  let v1169 : BitVec 32 := Scalar.select v1167 v1168 v1162
  let c1_i32_988 : BitVec 32 := 1#32
  let v1171 : BitVec 32 := Scalar.muli v1169 c1_i32_988
  let v1172 : BitVec 32 := Scalar.addi c0_i32_989 v1171
  v1172.toNat
def k0_dev53 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v1176 : BitVec 32 := Scalar.addi v2 c23_i32
  let c32_i32_993 : BitVec 32 := 32#32
  let c0_i32_994 : BitVec 32 := 0#32
  let v1177 : BitVec 1 := Scalar.cmpi .eq c32_i32_993 c0_i32_994
  let c1_i32_995 : BitVec 32 := 1#32
  let v1178 : BitVec 32 := Scalar.select v1177 c1_i32_995 c32_i32_993
  let v1179 : BitVec 32 := Scalar.remsi v1176 v1178
  let c0_i32_997 : BitVec 32 := 0#32
  let v1181 : BitVec 1 := Scalar.cmpi .slt v1179 c0_i32_997
  let c0_i32_998 : BitVec 32 := 0#32
  let v1182 : BitVec 1 := Scalar.cmpi .slt v1178 c0_i32_998
  let v1183 : BitVec 1 := Scalar.xori v1181 v1182
  let c0_i32_996 : BitVec 32 := 0#32
  let v1180 : BitVec 1 := Scalar.cmpi .ne v1179 c0_i32_996
  let v1184 : BitVec 1 := Scalar.andi v1183 v1180
  let v1185 : BitVec 32 := Scalar.addi v1179 v1178
  let v1186 : BitVec 32 := Scalar.select v1184 v1185 v1179
  let c1_i32_1001 : BitVec 32 := 1#32
  let v1188 : BitVec 32 := Scalar.muli v1186 c1_i32_1001
  let v1189 : BitVec 32 := Scalar.addi c0_i32_1002 v1188
  v1189.toNat
def k0_dev54 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1006 : BitVec 32 := 24#32
  let v1193 : BitVec 32 := Scalar.addi v2 c24_i32_1006
  let c32_i32_1007 : BitVec 32 := 32#32
  let c0_i32_1008 : BitVec 32 := 0#32
  let v1194 : BitVec 1 := Scalar.cmpi .eq c32_i32_1007 c0_i32_1008
  let c1_i32_1009 : BitVec 32 := 1#32
  let v1195 : BitVec 32 := Scalar.select v1194 c1_i32_1009 c32_i32_1007
  let v1196 : BitVec 32 := Scalar.remsi v1193 v1195
  let c0_i32_1011 : BitVec 32 := 0#32
  let v1198 : BitVec 1 := Scalar.cmpi .slt v1196 c0_i32_1011
  let c0_i32_1012 : BitVec 32 := 0#32
  let v1199 : BitVec 1 := Scalar.cmpi .slt v1195 c0_i32_1012
  let v1200 : BitVec 1 := Scalar.xori v1198 v1199
  let c0_i32_1010 : BitVec 32 := 0#32
  let v1197 : BitVec 1 := Scalar.cmpi .ne v1196 c0_i32_1010
  let v1201 : BitVec 1 := Scalar.andi v1200 v1197
  let v1202 : BitVec 32 := Scalar.addi v1196 v1195
  let v1203 : BitVec 32 := Scalar.select v1201 v1202 v1196
  let c1_i32_1015 : BitVec 32 := 1#32
  let v1205 : BitVec 32 := Scalar.muli v1203 c1_i32_1015
  let v1206 : BitVec 32 := Scalar.addi c0_i32_1016 v1205
  v1206.toNat
def k0_dev55 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v1210 : BitVec 32 := Scalar.addi v2 c25_i32
  let c32_i32_1020 : BitVec 32 := 32#32
  let c0_i32_1021 : BitVec 32 := 0#32
  let v1211 : BitVec 1 := Scalar.cmpi .eq c32_i32_1020 c0_i32_1021
  let c1_i32_1022 : BitVec 32 := 1#32
  let v1212 : BitVec 32 := Scalar.select v1211 c1_i32_1022 c32_i32_1020
  let v1213 : BitVec 32 := Scalar.remsi v1210 v1212
  let c0_i32_1024 : BitVec 32 := 0#32
  let v1215 : BitVec 1 := Scalar.cmpi .slt v1213 c0_i32_1024
  let c0_i32_1025 : BitVec 32 := 0#32
  let v1216 : BitVec 1 := Scalar.cmpi .slt v1212 c0_i32_1025
  let v1217 : BitVec 1 := Scalar.xori v1215 v1216
  let c0_i32_1023 : BitVec 32 := 0#32
  let v1214 : BitVec 1 := Scalar.cmpi .ne v1213 c0_i32_1023
  let v1218 : BitVec 1 := Scalar.andi v1217 v1214
  let v1219 : BitVec 32 := Scalar.addi v1213 v1212
  let v1220 : BitVec 32 := Scalar.select v1218 v1219 v1213
  let c1_i32_1028 : BitVec 32 := 1#32
  let v1222 : BitVec 32 := Scalar.muli v1220 c1_i32_1028
  let v1223 : BitVec 32 := Scalar.addi c0_i32_1029 v1222
  v1223.toNat
def k0_dev56 (d0 : Dev nD) : Nat :=
  let c0_i32_1042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v1227 : BitVec 32 := Scalar.addi v2 c26_i32
  let c32_i32_1033 : BitVec 32 := 32#32
  let c0_i32_1034 : BitVec 32 := 0#32
  let v1228 : BitVec 1 := Scalar.cmpi .eq c32_i32_1033 c0_i32_1034
  let c1_i32_1035 : BitVec 32 := 1#32
  let v1229 : BitVec 32 := Scalar.select v1228 c1_i32_1035 c32_i32_1033
  let v1230 : BitVec 32 := Scalar.remsi v1227 v1229
  let c0_i32_1037 : BitVec 32 := 0#32
  let v1232 : BitVec 1 := Scalar.cmpi .slt v1230 c0_i32_1037
  let c0_i32_1038 : BitVec 32 := 0#32
  let v1233 : BitVec 1 := Scalar.cmpi .slt v1229 c0_i32_1038
  let v1234 : BitVec 1 := Scalar.xori v1232 v1233
  let c0_i32_1036 : BitVec 32 := 0#32
  let v1231 : BitVec 1 := Scalar.cmpi .ne v1230 c0_i32_1036
  let v1235 : BitVec 1 := Scalar.andi v1234 v1231
  let v1236 : BitVec 32 := Scalar.addi v1230 v1229
  let v1237 : BitVec 32 := Scalar.select v1235 v1236 v1230
  let c1_i32_1041 : BitVec 32 := 1#32
  let v1239 : BitVec 32 := Scalar.muli v1237 c1_i32_1041
  let v1240 : BitVec 32 := Scalar.addi c0_i32_1042 v1239
  v1240.toNat
def k0_dev57 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v1244 : BitVec 32 := Scalar.addi v2 c27_i32
  let c32_i32_1046 : BitVec 32 := 32#32
  let c0_i32_1047 : BitVec 32 := 0#32
  let v1245 : BitVec 1 := Scalar.cmpi .eq c32_i32_1046 c0_i32_1047
  let c1_i32_1048 : BitVec 32 := 1#32
  let v1246 : BitVec 32 := Scalar.select v1245 c1_i32_1048 c32_i32_1046
  let v1247 : BitVec 32 := Scalar.remsi v1244 v1246
  let c0_i32_1050 : BitVec 32 := 0#32
  let v1249 : BitVec 1 := Scalar.cmpi .slt v1247 c0_i32_1050
  let c0_i32_1051 : BitVec 32 := 0#32
  let v1250 : BitVec 1 := Scalar.cmpi .slt v1246 c0_i32_1051
  let v1251 : BitVec 1 := Scalar.xori v1249 v1250
  let c0_i32_1049 : BitVec 32 := 0#32
  let v1248 : BitVec 1 := Scalar.cmpi .ne v1247 c0_i32_1049
  let v1252 : BitVec 1 := Scalar.andi v1251 v1248
  let v1253 : BitVec 32 := Scalar.addi v1247 v1246
  let v1254 : BitVec 32 := Scalar.select v1252 v1253 v1247
  let c1_i32_1054 : BitVec 32 := 1#32
  let v1256 : BitVec 32 := Scalar.muli v1254 c1_i32_1054
  let v1257 : BitVec 32 := Scalar.addi c0_i32_1055 v1256
  v1257.toNat
def k0_dev58 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1059 : BitVec 32 := 28#32
  let v1261 : BitVec 32 := Scalar.addi v2 c28_i32_1059
  let c32_i32_1060 : BitVec 32 := 32#32
  let c0_i32_1061 : BitVec 32 := 0#32
  let v1262 : BitVec 1 := Scalar.cmpi .eq c32_i32_1060 c0_i32_1061
  let c1_i32_1062 : BitVec 32 := 1#32
  let v1263 : BitVec 32 := Scalar.select v1262 c1_i32_1062 c32_i32_1060
  let v1264 : BitVec 32 := Scalar.remsi v1261 v1263
  let c0_i32_1064 : BitVec 32 := 0#32
  let v1266 : BitVec 1 := Scalar.cmpi .slt v1264 c0_i32_1064
  let c0_i32_1065 : BitVec 32 := 0#32
  let v1267 : BitVec 1 := Scalar.cmpi .slt v1263 c0_i32_1065
  let v1268 : BitVec 1 := Scalar.xori v1266 v1267
  let c0_i32_1063 : BitVec 32 := 0#32
  let v1265 : BitVec 1 := Scalar.cmpi .ne v1264 c0_i32_1063
  let v1269 : BitVec 1 := Scalar.andi v1268 v1265
  let v1270 : BitVec 32 := Scalar.addi v1264 v1263
  let v1271 : BitVec 32 := Scalar.select v1269 v1270 v1264
  let c1_i32_1068 : BitVec 32 := 1#32
  let v1273 : BitVec 32 := Scalar.muli v1271 c1_i32_1068
  let v1274 : BitVec 32 := Scalar.addi c0_i32_1069 v1273
  v1274.toNat
def k0_dev59 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v1278 : BitVec 32 := Scalar.addi v2 c29_i32
  let c32_i32_1073 : BitVec 32 := 32#32
  let c0_i32_1074 : BitVec 32 := 0#32
  let v1279 : BitVec 1 := Scalar.cmpi .eq c32_i32_1073 c0_i32_1074
  let c1_i32_1075 : BitVec 32 := 1#32
  let v1280 : BitVec 32 := Scalar.select v1279 c1_i32_1075 c32_i32_1073
  let v1281 : BitVec 32 := Scalar.remsi v1278 v1280
  let c0_i32_1077 : BitVec 32 := 0#32
  let v1283 : BitVec 1 := Scalar.cmpi .slt v1281 c0_i32_1077
  let c0_i32_1078 : BitVec 32 := 0#32
  let v1284 : BitVec 1 := Scalar.cmpi .slt v1280 c0_i32_1078
  let v1285 : BitVec 1 := Scalar.xori v1283 v1284
  let c0_i32_1076 : BitVec 32 := 0#32
  let v1282 : BitVec 1 := Scalar.cmpi .ne v1281 c0_i32_1076
  let v1286 : BitVec 1 := Scalar.andi v1285 v1282
  let v1287 : BitVec 32 := Scalar.addi v1281 v1280
  let v1288 : BitVec 32 := Scalar.select v1286 v1287 v1281
  let c1_i32_1081 : BitVec 32 := 1#32
  let v1290 : BitVec 32 := Scalar.muli v1288 c1_i32_1081
  let v1291 : BitVec 32 := Scalar.addi c0_i32_1082 v1290
  v1291.toNat
def k0_dev60 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v1295 : BitVec 32 := Scalar.addi v2 c30_i32
  let c32_i32_1086 : BitVec 32 := 32#32
  let c0_i32_1087 : BitVec 32 := 0#32
  let v1296 : BitVec 1 := Scalar.cmpi .eq c32_i32_1086 c0_i32_1087
  let c1_i32_1088 : BitVec 32 := 1#32
  let v1297 : BitVec 32 := Scalar.select v1296 c1_i32_1088 c32_i32_1086
  let v1298 : BitVec 32 := Scalar.remsi v1295 v1297
  let c0_i32_1090 : BitVec 32 := 0#32
  let v1300 : BitVec 1 := Scalar.cmpi .slt v1298 c0_i32_1090
  let c0_i32_1091 : BitVec 32 := 0#32
  let v1301 : BitVec 1 := Scalar.cmpi .slt v1297 c0_i32_1091
  let v1302 : BitVec 1 := Scalar.xori v1300 v1301
  let c0_i32_1089 : BitVec 32 := 0#32
  let v1299 : BitVec 1 := Scalar.cmpi .ne v1298 c0_i32_1089
  let v1303 : BitVec 1 := Scalar.andi v1302 v1299
  let v1304 : BitVec 32 := Scalar.addi v1298 v1297
  let v1305 : BitVec 32 := Scalar.select v1303 v1304 v1298
  let c1_i32_1094 : BitVec 32 := 1#32
  let v1307 : BitVec 32 := Scalar.muli v1305 c1_i32_1094
  let v1308 : BitVec 32 := Scalar.addi c0_i32_1095 v1307
  v1308.toNat
def k0_dev61 (d0 : Dev nD) : Nat :=
  let c0_i32_1108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v1312 : BitVec 32 := Scalar.addi v2 c31_i32
  let c32_i32_1099 : BitVec 32 := 32#32
  let c0_i32_1100 : BitVec 32 := 0#32
  let v1313 : BitVec 1 := Scalar.cmpi .eq c32_i32_1099 c0_i32_1100
  let c1_i32_1101 : BitVec 32 := 1#32
  let v1314 : BitVec 32 := Scalar.select v1313 c1_i32_1101 c32_i32_1099
  let v1315 : BitVec 32 := Scalar.remsi v1312 v1314
  let c0_i32_1103 : BitVec 32 := 0#32
  let v1317 : BitVec 1 := Scalar.cmpi .slt v1315 c0_i32_1103
  let c0_i32_1104 : BitVec 32 := 0#32
  let v1318 : BitVec 1 := Scalar.cmpi .slt v1314 c0_i32_1104
  let v1319 : BitVec 1 := Scalar.xori v1317 v1318
  let c0_i32_1102 : BitVec 32 := 0#32
  let v1316 : BitVec 1 := Scalar.cmpi .ne v1315 c0_i32_1102
  let v1320 : BitVec 1 := Scalar.andi v1319 v1316
  let v1321 : BitVec 32 := Scalar.addi v1315 v1314
  let v1322 : BitVec 32 := Scalar.select v1320 v1321 v1315
  let c1_i32_1107 : BitVec 32 := 1#32
  let v1324 : BitVec 32 := Scalar.muli v1322 c1_i32_1107
  let v1325 : BitVec 32 := Scalar.addi c0_i32_1108 v1324
  v1325.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1298 : BitVec 32 := 4#32
  let v1484 : BitVec 32 := Scalar.muli v2 c4_i32_1298
  let v1485 : Index := Scalar.indexCast v1484
  let c0_1299 : Index := 0#32
  ![v1485.toNat, 0]
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x8192 : Shape := ⟨2, ![128, 8192]⟩
abbrev S8192x128 : Shape := ⟨2, ![8192, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x128, .bf16⟩
  | .hbm, ⟨1, _⟩ => ⟨S128x8192, .bf16⟩
  | .hbm, ⟨2, _⟩ => ⟨S128x8192, .bf16⟩
  | .hbm, ⟨3, _⟩ => ⟨S128x8192, .bf16⟩
  | .hbm, ⟨4, _⟩ => ⟨S8192x128, .bf16⟩
  | .hbm, ⟨5, _⟩ => ⟨S8192x128, .bf16⟩
  | .hbm, ⟨6, _⟩ => ⟨S8192x128, .bf16⟩
  | .hbm, ⟨7, _⟩ => ⟨S128x8192, .f32⟩
  | .hbm, ⟨8, _⟩ => ⟨S128x8192, .bf16⟩
  | .hbm, ⟨9, _⟩ => ⟨S_, .bf16⟩
  | .hbm, ⟨10, _⟩ => ⟨S128x8192, .bf16⟩
  | .hbm, ⟨11, _⟩ => ⟨S128x8192, .bf16⟩
  | .hbm, ⟨12, _⟩ => ⟨S128x128, .f32⟩
  | .hbm, ⟨13, _⟩ => ⟨S128x128, .bf16⟩
  | .hbm, ⟨14, _⟩ => ⟨S128x8192, .f32⟩
  | .hbm, ⟨15, _⟩ => ⟨S128x8192, .bf16⟩
  | .hbm, ⟨16, _⟩ => ⟨S_, .bf16⟩
  | .hbm, ⟨17, _⟩ => ⟨S128x8192, .bf16⟩
  | .hbm, ⟨18, _⟩ => ⟨S128x8192, .bf16⟩
  | .hbm, ⟨19, _⟩ => ⟨S128x128, .f32⟩
  | .hbm, ⟨20, _⟩ => ⟨S128x128, .bf16⟩
  | .hbm, ⟨21, _⟩ => ⟨S128x8192, .f32⟩
  | .hbm, ⟨22, _⟩ => ⟨S128x8192, .bf16⟩
  | .hbm, ⟨23, _⟩ => ⟨S_, .bf16⟩
  | .hbm, ⟨24, _⟩ => ⟨S128x8192, .bf16⟩
  | .hbm, ⟨25, _⟩ => ⟨S128x8192, .bf16⟩
  | .hbm, ⟨26, _⟩ => ⟨S128x128, .f32⟩
  | .hbm, ⟨27, _⟩ => ⟨S128x128, .bf16⟩
  | .hbm, ⟨28, _⟩ => ⟨S128x128, .f32⟩
  | _, _ => ⟨S128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Body.lean ====
/-
# The kernel's body, with its repeated steps as loops

The printed body of the kernel is one long list of operations. Here the same list is written with the signals, the remote copies and the
waits as loops over the numbers of the copies, so that one lemma about a loop serves every copy of it. `body_eq` says that the printed body
is this one.
-/
module

public import proofs.«01_k».proof.Proof.Gen.KernelIdeal
public import proofs.«01_k».proof.Proof.Gen.KernelIdeal.Skeleton

@[expose] public section

noncomputable section

namespace Cert.Allreduce

open Cert.KernelIdeal Cert.KernelIdeal.Gen
open Idealize.ShloMosaic Idealize.SL.Sem

variable {F : FTy → Type} [FloatOps F]

/-! ## The buffers and the slots -/

abbrev xM : Memref sig .tc .vmem S128x128 .bf16 := Memref.whole cc0_stg0_0
abbrev wi0M : Memref sig .tc .vmem S128x256 .bf16 := Memref.whole cc0_stg1_0
abbrev wo0M : Memref sig .tc .vmem S256x128 .bf16 := Memref.whole cc0_stg2_0
abbrev wi1M : Memref sig .tc .vmem S128x256 .bf16 := Memref.whole cc0_stg3_0
abbrev wo1M : Memref sig .tc .vmem S256x128 .bf16 := Memref.whole cc0_stg4_0
abbrev wi2M : Memref sig .tc .vmem S128x256 .bf16 := Memref.whole cc0_stg5_0
abbrev wo2M : Memref sig .tc .vmem S256x128 .bf16 := Memref.whole cc0_stg6_0
abbrev outM : Memref sig .tc .vmem S4x128 .f32 := Memref.whole cc0_stg7_0
abbrev c1M : Memref sig .tc .vmem S3x3x128x128 .bf16 := Memref.whole cc0_scratch0
abbrev c2M : Memref sig .tc .vmem S3x7x128x128 .bf16 := Memref.whole cc0_scratch1
abbrev s1M : Memref sig .tc .vmem S3x128x128 .bf16 := Memref.whole cc0_scratch2
abbrev s2M : Memref sig .tc .vmem S3x128x128 .bf16 := Memref.whole cc0_scratch3
abbrev crM : Memref sig .tc .vmem S31x4x128 .f32 := Memref.whole cc0_scratch4
abbrev srM : Memref sig .tc .vmem S128x128 .f32 := Memref.whole cc0_scratch5

theorem inb_c1 (l : Fin 2) (i : Fin 3) : ∀ a, (![l.val, i.val, 0, 0] : Fin 4 → Nat) a + S1x1x128x128.size a ≤ S3x3x128x128.size a := by
  revert l i; decide
theorem inb_c2 (l : Fin 2) (i : Fin 7) : ∀ a, (![l.val, i.val, 0, 0] : Fin 4 → Nat) a + S1x1x128x128.size a ≤ S3x7x128x128.size a := by
  revert l i; decide
theorem inb_s (l : Fin 2) : ∀ a, (![l.val, 0, 0] : Fin 3 → Nat) a + S1x128x128.size a ≤ S3x128x128.size a := by
  revert l; decide
theorem inb_cr (i : Fin 31) : ∀ a, (![i.val, 0, 0] : Fin 3 → Nat) a + S1x4x128.size a ≤ S31x4x128.size a := by
  revert i; decide
theorem inb_c1l (l : Fin 2) : ∀ a, (![l.val, 0, 0, 0] : Fin 4 → Nat) a + S1x3x128x128.size a ≤ S3x3x128x128.size a := by
  revert l; decide
theorem inb_c2l (l : Fin 2) : ∀ a, (![l.val, 0, 0, 0] : Fin 4 → Nat) a + S1x7x128x128.size a ≤ S3x7x128x128.size a := by
  revert l; decide
theorem inb_sem (l : Fin 2) : ∀ a, (![l.val] : Fin 1 → Nat) a + S1.size a ≤ S3.size a := by
  revert l; decide

/-- The landing slot of layer `l`, number `i`, of the first phase. -/
abbrev slot1 (l : Fin 2) (i : Fin 3) : Memref sig .tc .vmem S128x128 .bf16 :=
  (c1M.slice (Rect.unit (s := S3x3x128x128) ![l.val, i.val, 0, 0] S1x1x128x128.size (inb_c1 l i)) (fun _ => rfl)).squeeze S128x128 squeezes_S1x1x128x128_S128x128
/-- The landing slot of layer `l`, number `i`, of the second phase. -/
abbrev slot2 (l : Fin 2) (i : Fin 7) : Memref sig .tc .vmem S128x128 .bf16 :=
  (c2M.slice (Rect.unit (s := S3x7x128x128) ![l.val, i.val, 0, 0] S1x1x128x128.size (inb_c2 l i)) (fun _ => rfl)).squeeze S128x128 squeezes_S1x1x128x128_S128x128
/-- What layer `l`'s first and second phases send. -/
abbrev src1 (l : Fin 2) : Memref sig .tc .vmem S128x128 .bf16 :=
  (s1M.slice (Rect.unit (s := S3x128x128) ![l.val, 0, 0] S1x128x128.size (inb_s l)) (fun _ => rfl)).squeeze S128x128 squeezes_S1x128x128_S128x128
@[inherit_doc src1] abbrev src2 (l : Fin 2) : Memref sig .tc .vmem S128x128 .bf16 :=
  (s2M.slice (Rect.unit (s := S3x128x128) ![l.val, 0, 0] S1x128x128.size (inb_s l)) (fun _ => rfl)).squeeze S128x128 squeezes_S1x128x128_S128x128
/-- The landing slot number `i` of the last layer's reduce-scatter, and the rows that its copy number `i` sends. -/
abbrev slotR (i : Fin 31) : Memref sig .tc .vmem S4x128 .f32 :=
  (crM.slice (Rect.unit (s := S31x4x128) ![i.val, 0, 0] S1x4x128.size (inb_cr i)) (fun _ => rfl)).squeeze S4x128 squeezes_S1x4x128_S4x128
@[inherit_doc slotR] abbrev srcR (c : Dev nD) (i : Fin 31) : Memref sig .tc .vmem S4x128 .f32 :=
  srM.slice (Rect.unit (s := S128x128) (k0_off1 c (BitVec.ofNat 32 (1 + i.val))) S4x128.size (k0_off1_inb c i)) (fun _ => rfl)

abbrev barS : Sem sig := (SemArray.scalar (sig.barrier 0 rfl) : Sems sig S_).sem
abbrev r1S (l : Fin 2) : DmaSem sig := ((cc0_scratch7.slice (Rect.unit (s := S3) ![l.val] S1.size (inb_sem l))).squeeze S_ squeezes_S1_S_ : DmaSems sig S_).sem
abbrev r2S (l : Fin 2) : DmaSem sig := ((cc0_scratch8.slice (Rect.unit (s := S3) ![l.val] S1.size (inb_sem l))).squeeze S_ squeezes_S1_S_ : DmaSems sig S_).sem
abbrev sendS : DmaSem sig := (cc0_scratch6 : DmaSems sig S_).sem
abbrev rrS : DmaSem sig := (cc0_scratch9 : DmaSems sig S_).sem
abbrev srS : DmaSem sig := (cc0_scratch10 : DmaSems sig S_).sem

theorem words_c1 (l : Fin 2) (i : Fin 3) : (Rect.unit (s := S3x3x128x128) ![l.val, i.val, 0, 0] S1x1x128x128.size (inb_c1 l i)).WholeWords (EltTy.packing .bf16) := by
  revert l i; decide
theorem words_c2 (l : Fin 2) (i : Fin 7) : (Rect.unit (s := S3x7x128x128) ![l.val, i.val, 0, 0] S1x1x128x128.size (inb_c2 l i)).WholeWords (EltTy.packing .bf16) := by
  revert l i; decide
theorem words_s (l : Fin 2) : (Rect.unit (s := S3x128x128) ![l.val, 0, 0] S1x128x128.size (inb_s l)).WholeWords (EltTy.packing .bf16) := by
  revert l; decide
theorem packed_s (l : Fin 2) : (Rect.unit (s := S3x128x128) ![l.val, 0, 0] S1x128x128.size (inb_s l)).PackedRows (EltTy.packing .bf16) := by
  revert l; decide

theorem exact_slot1 (l : Fin 2) (i : Fin 3) : (slot1 l i).view.WordExact := ((Memref.isWhole_whole cc0_scratch0).wordExact_slice rfl _ (words_c1 l i)).reshape _ _
theorem exact_slot2 (l : Fin 2) (i : Fin 7) : (slot2 l i).view.WordExact := ((Memref.isWhole_whole cc0_scratch1).wordExact_slice rfl _ (words_c2 l i)).reshape _ _
theorem exact_src1 (l : Fin 2) : (src1 l).view.WordExact := ((Memref.isWhole_whole cc0_scratch2).wordExact_slice rfl _ (words_s l)).reshape _ _
theorem exact_src2 (l : Fin 2) : (src2 l).view.WordExact := ((Memref.isWhole_whole cc0_scratch3).wordExact_slice rfl _ (words_s l)).reshape _ _
theorem exact_slotR (i : Fin 31) : (slotR i).view.WordExact := (View.wordExact_bits rfl).reshape _ _
theorem exact_srcR (c : Dev nD) (i : Fin 31) : (srcR c i).view.WordExact := View.wordExact_bits rfl

/-! ## The loops -/

abbrev P (F : FTy → Type) [FloatOps F] : Type 1 := Prog (TpuEff nD τ sig (Elt F) Λ₀ .tc) PUnit

/-- One unit to the barrier semaphore of each device of a list. -/
def signals {n : ℕ} (dev : Fin n → Dev nD) : List (Fin n) → P F → P F
  | [], k => k
  | i :: l, k => .op (.semSignal (Dev.tc (dev i)) barS (1#32 : BitVec 32).toInt) fun _ => signals dev l k

/-- Remote copies, one for each number of a list, all counted on the same two semaphores. -/
def sends {n : ℕ} {s : Shape} {e : EltTy} (src dst : Fin n → Memref sig .tc .vmem s e) (dev : Fin n → Dev nD) (sS rS : DmaSem sig)
    (hs : ∀ i, (src i).view.WordExact) (hd : ∀ i, (dst i).view.WordExact) : List (Fin n) → P F → P F
  | [], k => k
  | i :: l, k => .op (.enqueueDma (src i) (.remote (Dev.tc (dev i)) (dst i) (.dma sS)) (.dma rS) (hs i) (hd i) ⟨⟨rfl, Or.inl rfl⟩, trivial⟩)
      fun _ => sends src dst dev sS rS hs hd l k

/-- Waits for copies, one for each number of a list, on one semaphore. -/
def waits {n : ℕ} {s : Shape} {e : EltTy} (src dst : Fin n → Memref sig .tc .vmem s e) (sem : DmaSem sig)
    (hs : ∀ i, (src i).view.WordExact) (hd : ∀ i, (dst i).view.WordExact) : List (Fin n) → P F → P F
  | [], k => k
  | i :: l, k => .op (.waitDma2 sem (src i) (dst i) (hs i) (hd i)) fun _ => waits src dst sem hs hd l k

/-! ## Which devices the printed body names -/

def devB (c : Dev nD) : Fin 10 → Dev nD := ![⟨k0_dev1 c, k0_dev1_lt c⟩, ⟨k0_dev2 c, k0_dev2_lt c⟩, ⟨k0_dev3 c, k0_dev3_lt c⟩, ⟨k0_dev4 c, k0_dev4_lt c⟩,
  ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩]
def dev1 (c : Dev nD) (l : Fin 2) : Fin 3 → Dev nD := match l with
  | 0 => ![⟨k0_dev11 c, k0_dev11_lt c⟩, ⟨k0_dev12 c, k0_dev12_lt c⟩, ⟨k0_dev13 c, k0_dev13_lt c⟩]
  | 1 => ![⟨k0_dev21 c, k0_dev21_lt c⟩, ⟨k0_dev22 c, k0_dev22_lt c⟩, ⟨k0_dev23 c, k0_dev23_lt c⟩]
def dev2 (c : Dev nD) (l : Fin 2) : Fin 7 → Dev nD := match l with
  | 0 => ![⟨k0_dev14 c, k0_dev14_lt c⟩, ⟨k0_dev15 c, k0_dev15_lt c⟩, ⟨k0_dev16 c, k0_dev16_lt c⟩, ⟨k0_dev17 c, k0_dev17_lt c⟩,
      ⟨k0_dev18 c, k0_dev18_lt c⟩, ⟨k0_dev19 c, k0_dev19_lt c⟩, ⟨k0_dev20 c, k0_dev20_lt c⟩]
  | 1 => ![⟨k0_dev24 c, k0_dev24_lt c⟩, ⟨k0_dev25 c, k0_dev25_lt c⟩, ⟨k0_dev26 c, k0_dev26_lt c⟩, ⟨k0_dev27 c, k0_dev27_lt c⟩,
      ⟨k0_dev28 c, k0_dev28_lt c⟩, ⟨k0_dev29 c, k0_dev29_lt c⟩, ⟨k0_dev30 c, k0_dev30_lt c⟩]
def devR (c : Dev nD) : Fin 31 → Dev nD := ![⟨k0_dev31 c, k0_dev31_lt c⟩, ⟨k0_dev32 c, k0_dev32_lt c⟩, ⟨k0_dev33 c, k0_dev33_lt c⟩, ⟨k0_dev34 c, k0_dev34_lt c⟩,
  ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩,
  ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩,
  ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩,
  ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩,
  ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩,
  ⟨k0_dev60 c, k0_dev60_lt c⟩, ⟨k0_dev61 c, k0_dev61_lt c⟩]

abbrev l3 : List (Fin 3) := [0, 1, 2]
abbrev l7 : List (Fin 7) := [0, 1, 2, 3, 4, 5, 6]
abbrev l10 : List (Fin 10) := [0, 1, 2, 3, 4, 5, 6, 7, 8, 9]
abbrev l31 : List (Fin 31) := [0, 1, 2, 3, 4, 5, 6, 7, 8, 9, 10, 11, 12, 13, 14, 15, 16, 17, 18, 19, 20, 21, 22, 23, 24, 25, 26, 27, 28, 29, 30]

/-! ## The rectangles of the loads and stores -/

abbrev r128 : Rect S128x128 := Rect.unit (s := S128x128) ![0, 0] S128x128.size inb_S128x128_S128x128_0_0
abbrev rWi : Rect S128x256 := Rect.unit (s := S128x256) ![0, 0] S128x256.size inb_S128x256_S128x256_0_0
abbrev rWo : Rect S256x128 := Rect.unit (s := S256x128) ![0, 0] S256x128.size inb_S256x128_S256x128_0_0
abbrev rS (l : Fin 2) : Rect S3x128x128 := Rect.unit (s := S3x128x128) ![l.val, 0, 0] S1x128x128.size (inb_s l)
abbrev rC1 (l : Fin 2) : Rect S3x3x128x128 := Rect.unit (s := S3x3x128x128) ![l.val, 0, 0, 0] S1x3x128x128.size (inb_c1l l)
abbrev rC2 (l : Fin 2) : Rect S3x7x128x128 := Rect.unit (s := S3x7x128x128) ![l.val, 0, 0, 0] S1x7x128x128.size (inb_c2l l)
abbrev rOwn (c : Dev nD) : Rect S128x128 := Rect.unit (s := S128x128) (k0_off2 c) S4x128.size (k0_off2_inb c)
abbrev rCr : Rect S31x4x128 := Rect.unit (s := S31x4x128) ![0, 0, 0] S31x4x128.size inb_S31x4x128_S31x4x128_0_0_0
abbrev rOut : Rect S4x128 := Rect.unit (s := S4x128) ![0, 0] S4x128.size inb_S4x128_S4x128_0_0

/-! ## The body, part by part -/

/-- The first layer's product, the store of what its first phase sends. -/
def head0 (k : FVec F S128x128 .f32 → P F) : P F :=
  .op (.load xM r128.toLoadRect (View.loadsAt_vmem h_S128x128)) fun v172 =>
  .op (.load wi0M rWi.toLoadRect (View.loadsAt_vmem h_S128x256)) fun v174 =>
  .op (.load wo0M rWo.toLoadRect (View.loadsAt_vmem h_S256x128)) fun v180 =>
  .op (.load s1M (rS 0).toLoadRect (View.loadsAt_vmem h_S1x128x128)) fun v184 =>
  .op (.store s1M (rS 0) (k0_pay2 v172 v174 v180) Finset.univ (View.stores_vmem h_S1x128x128 ((Memref.isWhole_whole _).storeExact_slice rfl _ (packed_s 0)) (fun _ => rfl)) (.inl rfl)) fun _ =>
  k (k0_pay1 v172 v174 v180)

/-- Layer `l`'s first phase: the copies to the device's row, the waits for those of its row. -/
def row (c : Dev nD) (l : Fin 2) (k : P F) : P F :=
  sends (fun _ => src1 l) (slot1 l) (dev1 c l) sendS (r1S l) (fun _ => exact_src1 l) (exact_slot1 l) l3 <|
  waits (fun _ => src1 l) (slot1 l) (r1S l) (fun _ => exact_src1 l) (exact_slot1 l) l3 k

/-- Layer `l`'s second phase, over the device's column. -/
def col (c : Dev nD) (l : Fin 2) (k : P F) : P F :=
  sends (fun _ => src2 l) (slot2 l) (dev2 c l) sendS (r2S l) (fun _ => exact_src2 l) (exact_slot2 l) l7 <|
  waits (fun _ => src2 l) (slot2 l) (r2S l) (fun _ => exact_src2 l) (exact_slot2 l) l7 k

/-- Between the phases of layer `l`: the row's sum, stored for the column; `pay` is what is stored. -/
def mid (l : Fin 2) (pay : Vec F S1x3x128x128 .bf16 → FVec F S1x128x128 .bf16) (k : Vec F S1x3x128x128 .bf16 → P F) : P F :=
  .op (.load c1M (rC1 l).toLoadRect (View.loadsAt_vmem h_S1x3x128x128)) fun v =>
  .op (.load s2M (rS l).toLoadRect (View.loadsAt_vmem h_S1x128x128)) fun _ =>
  .op (.store s2M (rS l) (pay v) Finset.univ (View.stores_vmem h_S1x128x128 ((Memref.isWhole_whole _).storeExact_slice rfl _ (packed_s l)) (fun _ => rfl)) (.inl rfl)) fun _ =>
  k v

/-- Layer 1's head: the column's sum, the product, the store of what its first phase sends. -/
def head1 (g : FVec F S128x128 .f32) (k : FVec F S128x128 .f32 → P F) : P F :=
  .op (.load c2M (rC2 0).toLoadRect (View.loadsAt_vmem h_S1x7x128x128)) fun v476 =>
  .op (.load wi1M rWi.toLoadRect (View.loadsAt_vmem h_S128x256)) fun v482 =>
  .op (.load wo1M rWo.toLoadRect (View.loadsAt_vmem h_S256x128)) fun v488 =>
  .op (.load s1M (rS 1).toLoadRect (View.loadsAt_vmem h_S1x128x128)) fun v492 =>
  .op (.store s1M (rS 1) (k0_pay6 g v476 v482 v488) Finset.univ (View.stores_vmem h_S1x128x128 ((Memref.isWhole_whole _).storeExact_slice rfl _ (packed_s 1)) (fun _ => rfl)) (.inl rfl)) fun _ =>
  k (k0_pay5 g v476 v482 v488)

/-- The last layer's head: its product into the buffer that the reduce-scatter sends from. -/
def head2 (g : FVec F S128x128 .f32) (k : P F) : P F :=
  .op (.load c2M (rC2 1).toLoadRect (View.loadsAt_vmem h_S1x7x128x128)) fun v784 =>
  .op (.load wi2M rWi.toLoadRect (View.loadsAt_vmem h_S128x256)) fun v790 =>
  .op (.load wo2M rWo.toLoadRect (View.loadsAt_vmem h_S256x128)) fun v796 =>
  .op (.load srM r128.toLoadRect (View.loadsAt_vmem h_S128x128)) fun v799 =>
  .op (.store srM r128 (k0_pay12 (k0_pay10 g v784 v790) k0_pay11 v796) Finset.univ (View.stores_vmem_bits_univ h_S128x128 rfl) (.inl rfl)) fun _ => k

/-- The reduce-scatter and the result. -/
def tail (c : Dev nD) (k : P F) : P F :=
  sends (srcR c) slotR (devR c) srS rrS (exact_srcR c) exact_slotR l31 <|
  waits (srcR c) slotR rrS (exact_srcR c) exact_slotR l31 <|
  .op (.load srM (rOwn c).toLoadRect (View.loadsAt_vmem h_S4x128)) fun v1486 =>
  .op (.load crM rCr.toLoadRect (View.loadsAt_vmem h_S31x4x128)) fun v1487 =>
  .op (.load outM rOut.toLoadRect (View.loadsAt_vmem h_S4x128)) fun v1490 =>
  .op (.store outM rOut (k0_pay13 v1486 v1487) Finset.univ (View.stores_vmem_bits_univ h_S4x128 rfl) (.inl rfl)) fun _ => k

/-- The waits for the device's own copies to have left. -/
def drain (c : Dev nD) (k : P F) : P F :=
  waits (slot1 0) (fun _ => src1 0) sendS (exact_slot1 0) (fun _ => exact_src1 0) l3 <|
  waits (slot2 0) (fun _ => src2 0) sendS (exact_slot2 0) (fun _ => exact_src2 0) l7 <|
  waits (slot1 1) (fun _ => src1 1) sendS (exact_slot1 1) (fun _ => exact_src1 1) l3 <|
  waits (slot2 1) (fun _ => src2 1) sendS (exact_slot2 1) (fun _ => exact_src2 1) l7 <|
  waits slotR (srcR c) srS exact_slotR (exact_srcR c) l31 k

/-- The whole body. -/
def body : P F :=
  .op .deviceId fun c : Dev nD =>
  signals (devB c) l10 <|
  head0 fun p0 =>
  .op (.semWait barS (10#32 : BitVec 32).toInt) fun _ =>
  row c 0 <|
  mid 0 (k0_pay4 p0) fun v271 =>
  col c 0 <|
  head1 (k0_pay3 p0 v271) fun p1 =>
  row c 1 <|
  mid 1 (fun v => k0_pay9 (k0_pay8 p1 v)) fun v579 =>
  col c 1 <|
  head2 (k0_pay7 p1 v579) <|
  tail c <|
  drain c (.ret ⟨⟩)

/-- The printed body is this one. -/
theorem body_eq : cc0_body (F := F) xM (Memref.isWhole_whole _) wi0M (Memref.isWhole_whole _) wo0M (Memref.isWhole_whole _) wi1M (Memref.isWhole_whole _)
    wo1M (Memref.isWhole_whole _) wi2M (Memref.isWhole_whole _) wo2M (Memref.isWhole_whole _) outM (Memref.isWhole_whole _) c1M (Memref.isWhole_whole _)
    c2M (Memref.isWhole_whole _) s1M (Memref.isWhole_whole _) s2M (Memref.isWhole_whole _) crM (Memref.isWhole_whole _) srM (Memref.isWhole_whole _)
    cc0_scratch6 cc0_scratch7 cc0_scratch8 cc0_scratch9 cc0_scratch10 = body := by
  rw [cc0_body_eq_skeleton]
  rfl

end Cert.Allreduce
-- ==== Proof.Devices.lean ====
/-
# The devices

Which device each signal and each copy goes to: in the device's row of four, in its column of eight, and over all thirty-two.
-/
module

public import proofs.«01_k».proof.Proof.Body

@[expose] public section

noncomputable section

namespace Cert.Allreduce

open Cert.KernelIdeal Cert.KernelIdeal.Gen
open Idealize.ShloMosaic Idealize.SL.Sem

set_option backward.proofsInPublic true in
/-- The device that `c`'s copy number `i` goes to, in the row, in the column, over all. -/
def rowD (c : Dev nD) (i : Fin 3) : Dev nD := ⟨(c.val / 4 * 4 + (c.val % 4 + i.val + 1) % 4) % 32, Nat.mod_lt _ (by decide)⟩
set_option backward.proofsInPublic true in
@[inherit_doc rowD] def colD (c : Dev nD) (i : Fin 7) : Dev nD := ⟨(c.val + 4 * (i.val + 1)) % 32, Nat.mod_lt _ (by decide)⟩
set_option backward.proofsInPublic true in
@[inherit_doc rowD] def rsD (c : Dev nD) (i : Fin 31) : Dev nD := ⟨(c.val + i.val + 1) % 32, Nat.mod_lt _ (by decide)⟩

theorem rowD_rev (c : Dev nD) (i : Fin 3) : rowD (rowD c i) i.rev = c := by revert c i; decide +kernel
theorem rowD_rev' (c : Dev nD) (i : Fin 3) : rowD (rowD c i.rev) i = c := by revert c i; decide +kernel
theorem colD_rev (c : Dev nD) (i : Fin 7) : colD (colD c i) i.rev = c := by revert c i; decide +kernel
theorem colD_rev' (c : Dev nD) (i : Fin 7) : colD (colD c i.rev) i = c := by revert c i; decide +kernel
theorem rsD_rev (c : Dev nD) (i : Fin 31) : rsD (rsD c i) i.rev = c := by revert c i; decide +kernel
theorem rsD_rev' (c : Dev nD) (i : Fin 31) : rsD (rsD c i.rev) i = c := by revert c i; decide +kernel

theorem devB_row (c : Dev nD) (i : Fin 3) : devB c (i.castAdd 7) = rowD c i := by revert c i; decide +kernel
theorem devB_col (c : Dev nD) (i : Fin 7) : devB c (i.natAdd 3) = colD c i := by revert c i; decide +kernel
theorem dev1_eq (c : Dev nD) (l : Fin 2) (i : Fin 3) : dev1 c l i = rowD c i := by revert c l i; decide +kernel
theorem dev2_eq (c : Dev nD) (l : Fin 2) (i : Fin 7) : dev2 c l i = colD c i := by revert c l i; decide +kernel
theorem devR_eq (c : Dev nD) (i : Fin 31) : devR c i = rsD c i := by revert c i; decide +kernel
theorem off1_eq (c : Dev nD) (i : Fin 31) : k0_off1 c (BitVec.ofNat 32 (1 + i.val)) = ![4 * (rsD c i).val, 0] := by revert c i; decide +kernel

theorem rsD_inj (c : Dev nD) (i j : Fin 31) (h : rsD c i = rsD c j) : i = j := by revert c i j; decide +kernel
theorem rsD_ne (c : Dev nD) (i : Fin 31) : rsD c i ≠ c := by revert c i; decide +kernel

set_option backward.proofsInPublic true in
/-- The devices of `c`'s row and of its column, `c` first. -/
def rowF (c : Dev nD) (a : Fin 4) : Dev nD := ⟨(c.val / 4 * 4 + (c.val % 4 + a.val) % 4) % 32, Nat.mod_lt _ (by decide)⟩
set_option backward.proofsInPublic true in
@[inherit_doc rowF] def colF (c : Dev nD) (b : Fin 8) : Dev nD := ⟨(c.val + 4 * b.val) % 32, Nat.mod_lt _ (by decide)⟩

theorem rowF_zero (c : Dev nD) : rowF c 0 = c := by revert c; decide +kernel
theorem colF_zero (c : Dev nD) : colF c 0 = c := by revert c; decide +kernel
theorem rowF_succ (c : Dev nD) (i : Fin 3) : rowF c i.succ = rowD c i := by revert c i; decide +kernel
theorem colF_succ (c : Dev nD) (i : Fin 7) : colF c i.succ = colD c i := by revert c i; decide +kernel

set_option backward.proofsInPublic true in
/-- Every device is in one place of the grid around `c`: first along the row, or first along the column. -/
def gridRC (c : Dev nD) : Fin 4 × Fin 8 ≃ Dev nD where
  toFun p := colF (rowF c p.1) p.2
  invFun d := (⟨(d.val % 4 + 4 - c.val % 4) % 4, Nat.mod_lt _ (by decide)⟩, ⟨(d.val / 4 + 8 - c.val / 4) % 8, Nat.mod_lt _ (by decide)⟩)
  left_inv := by revert c; decide +kernel
  right_inv := by revert c; decide +kernel

theorem rowF_colF (c : Dev nD) (a : Fin 4) (b : Fin 8) : rowF (colF c b) a = colF (rowF c a) b := by revert c a b; decide +kernel

set_option backward.proofsInPublic true in
/-- The number of the slot, on `p`, where `d`'s reduce-scatter copy lands. -/
def ixR (p d : Dev nD) : Fin 31 := ⟨(p.val + 31 - d.val) % 32 % 31, Nat.mod_lt _ (by decide)⟩
theorem ixR_rsD (c : Dev nD) (i : Fin 31) : ixR (rsD c i) c = i := by revert c i; decide +kernel
theorem ixR_rsD' (c : Dev nD) (i : Fin 31) : ixR c (rsD c i) = i.rev := by revert c i; decide +kernel

set_option backward.proofsInPublic true in
/-- The devices other than `c`, by the number of `c`'s copy to each. -/
def others (c : Dev nD) : Option (Fin 31) ≃ Dev nD where
  toFun o := o.elim c (rsD c)
  invFun d := if d = c then none else some (ixR d c)
  left_inv := by revert c; decide +kernel
  right_inv := by revert c; decide +kernel

end Cert.Allreduce
-- ==== Proof.Slots.lean ====
/-
# The slots of the buffers, by coordinates

Which indices of a buffer each slot has, what a copy leaves in the slot where it lands, and what the loads and stores of a whole layer read
and leave.
-/
module

public import proofs.«01_k».proof.Proof.Devices
public import Idealize.ShloMosaic.Lib.Pipeline.Launch
public import Idealize.ShloMosaic.Lib.Pipeline.Kit
public import Idealize.ShloMosaic.Lib.ValueIdxCore

@[expose] public section

noncomputable section

namespace Cert.Allreduce

open Cert.KernelIdeal Cert.KernelIdeal.Gen
open Idealize.ShloMosaic Idealize.SL.Sem
open Idealize.ShloMosaic.ValueIdx (ix1 ix2 ix3 ix4)

variable {Val : EltTy → Type}

/-- Two leading axes of size one dropped: the index matched with `x` is `x` behind two zeros. -/
theorem reshapeEquiv_cons_one_one {n : Nat} {d : Fin n → Nat}
    (h : (⟨n, d⟩ : Shape).numel = (⟨n + 2, Matrix.vecCons 1 (Matrix.vecCons 1 d)⟩ : Shape).numel) (x : (⟨n, d⟩ : Shape).Idx) :
    Shape.reshapeEquiv h x = Fin.cons ⟨0, Nat.one_pos⟩ (Fin.cons ⟨0, Nat.one_pos⟩ x) := by
  have h1 : (⟨n, d⟩ : Shape).numel = (⟨n + 1, Matrix.vecCons 1 d⟩ : Shape).numel := by rw [h]; exact (Fin.prod_univ_succ _).trans (Nat.one_mul _)
  have h2 : (⟨n + 1, Matrix.vecCons 1 d⟩ : Shape).numel = (⟨n + 2, Matrix.vecCons 1 (Matrix.vecCons 1 d)⟩ : Shape).numel := h1.symm.trans h
  exact (Shape.reshapeEquiv_reshapeEquiv h2 h1 x).symm.trans
    ((congrArg (Shape.reshapeEquiv h2) (Shape.reshapeEquiv_cons_one h1 x)).trans (Shape.reshapeEquiv_cons_one h2 _))

/-! ## The slots' indices -/

theorem set_slot1 (l : Fin 2) (i : Fin 3) :
    (slot1 l i).view.set = (Rect.unit (s := S3x3x128x128) ![l.val, i.val, 0, 0] S1x1x128x128.size (inb_c1 l i)).set :=
  (View.set_reshape _ _).trans (View.set_slice_whole _ _)
theorem set_slot2 (l : Fin 2) (i : Fin 7) :
    (slot2 l i).view.set = (Rect.unit (s := S3x7x128x128) ![l.val, i.val, 0, 0] S1x1x128x128.size (inb_c2 l i)).set :=
  (View.set_reshape _ _).trans (View.set_slice_whole _ _)
theorem set_src1 (l : Fin 2) : (src1 l).view.set = (rS l).set := (View.set_reshape _ _).trans (View.set_slice_whole _ _)
theorem set_src2 (l : Fin 2) : (src2 l).view.set = (rS l).set := (View.set_reshape _ _).trans (View.set_slice_whole _ _)
theorem set_slotR (i : Fin 31) : (slotR i).view.set = (Rect.unit (s := S31x4x128) ![i.val, 0, 0] S1x4x128.size (inb_cr i)).set :=
  (View.set_reshape _ _).trans (View.set_slice_whole _ _)
theorem set_srcR (c : Dev nD) (i : Fin 31) :
    (srcR c i).view.set = (Rect.unit (s := S128x128) (k0_off1 c (BitVec.ofNat 32 (1 + i.val))) S4x128.size (k0_off1_inb c i)).set :=
  View.set_slice_whole _ _

theorem mem_slot1 (l : Fin 2) (i : Fin 3) (x : S3x3x128x128.Idx) : x ∈ (slot1 l i).view.set ↔ (x 0).val = l.val ∧ (x 1).val = i.val := by
  rw [set_slot1]
  refine Rect.mem_set_unit.trans ?_
  have h2 := (x 2).isLt; have h3 := (x 3).isLt
  simp [Fin.forall_fin_succ]
  simp at h2 h3
  omega
theorem mem_slot2 (l : Fin 2) (i : Fin 7) (x : S3x7x128x128.Idx) : x ∈ (slot2 l i).view.set ↔ (x 0).val = l.val ∧ (x 1).val = i.val := by
  rw [set_slot2]
  refine Rect.mem_set_unit.trans ?_
  have h2 := (x 2).isLt; have h3 := (x 3).isLt
  simp [Fin.forall_fin_succ]
  simp at h2 h3
  omega
theorem mem_rS (l : Fin 2) (x : S3x128x128.Idx) : x ∈ (rS l).set ↔ (x 0).val = l.val := by
  refine Rect.mem_set_unit.trans ?_
  have h1 := (x 1).isLt; have h2 := (x 2).isLt
  simp [Fin.forall_fin_succ]
  simp at h1 h2
  omega
theorem mem_src1 (l : Fin 2) (x : S3x128x128.Idx) : x ∈ (src1 l).view.set ↔ (x 0).val = l.val := by rw [set_src1]; exact mem_rS l x
theorem mem_src2 (l : Fin 2) (x : S3x128x128.Idx) : x ∈ (src2 l).view.set ↔ (x 0).val = l.val := by rw [set_src2]; exact mem_rS l x
theorem mem_slotR (i : Fin 31) (x : S31x4x128.Idx) : x ∈ (slotR i).view.set ↔ (x 0).val = i.val := by
  rw [set_slotR]
  refine Rect.mem_set_unit.trans ?_
  have h1 := (x 1).isLt; have h2 := (x 2).isLt
  simp [Fin.forall_fin_succ]
  simp at h1 h2
  omega
theorem mem_srcR (c : Dev nD) (i : Fin 31) (x : S128x128.Idx) : x ∈ (srcR c i).view.set ↔ (x 0).val / 4 = (rsD c i).val := by
  rw [set_srcR]
  refine Rect.mem_set_unit.trans ?_
  have h1 := (x 1).isLt
  simp [Fin.forall_fin_succ, off1_eq]
  simp at h1
  omega
theorem mem_rOwn (c : Dev nD) (x : S128x128.Idx) : x ∈ (rOwn c).set ↔ (x 0).val / 4 = c.val := by
  refine Rect.mem_set_unit.trans ?_
  have h1 := (x 1).isLt
  simp [Fin.forall_fin_succ, k0_off2_eq]
  simp at h1
  omega

theorem slot1_disjoint (p q : Fin 2 × Fin 3) (h : p ≠ q) : Disjoint (slot1 p.1 p.2).view.set (slot1 q.1 q.2).view.set := by
  rw [Finset.disjoint_left]; intro x hx hy
  obtain ⟨a1, a2⟩ := (mem_slot1 _ _ x).mp hx; obtain ⟨b1, b2⟩ := (mem_slot1 _ _ x).mp hy
  exact h (Prod.ext (Fin.ext (a1.symm.trans b1)) (Fin.ext (a2.symm.trans b2)))
theorem slot2_disjoint (p q : Fin 2 × Fin 7) (h : p ≠ q) : Disjoint (slot2 p.1 p.2).view.set (slot2 q.1 q.2).view.set := by
  rw [Finset.disjoint_left]; intro x hx hy
  obtain ⟨a1, a2⟩ := (mem_slot2 _ _ x).mp hx; obtain ⟨b1, b2⟩ := (mem_slot2 _ _ x).mp hy
  exact h (Prod.ext (Fin.ext (a1.symm.trans b1)) (Fin.ext (a2.symm.trans b2)))
theorem src1_disjoint (p q : Fin 2) (h : p ≠ q) : Disjoint (src1 p).view.set (src1 q).view.set := by
  rw [Finset.disjoint_left]; intro x hx hy
  exact h (Fin.ext (((mem_src1 _ x).mp hx).symm.trans ((mem_src1 _ x).mp hy)))
theorem src2_disjoint (p q : Fin 2) (h : p ≠ q) : Disjoint (src2 p).view.set (src2 q).view.set := by
  rw [Finset.disjoint_left]; intro x hx hy
  exact h (Fin.ext (((mem_src2 _ x).mp hx).symm.trans ((mem_src2 _ x).mp hy)))
theorem slotR_disjoint (p q : Fin 31) (h : p ≠ q) : Disjoint (slotR p).view.set (slotR q).view.set := by
  rw [Finset.disjoint_left]; intro x hx hy
  exact h (Fin.ext (((mem_slotR _ x).mp hx).symm.trans ((mem_slotR _ x).mp hy)))
theorem srcR_disjoint (c : Dev nD) (p q : Fin 31) (h : p ≠ q) : Disjoint (srcR c p).view.set (srcR c q).view.set := by
  rw [Finset.disjoint_left]; intro x hx hy
  exact h (rsD_inj c p q (Fin.ext (((mem_srcR c _ x).mp hx).symm.trans ((mem_srcR c _ x).mp hy))))

/-! ## What a slot's view reads -/

theorem emb_slot1 (l : Fin 2) (i : Fin 3) (j : S128x128.Idx) : (slot1 l i).view.emb j = (ix4 (l.castLE (by decide)) i (j 0) (j 1) : S3x3x128x128.Idx) := by
  show ((Rect.unit (s := S3x3x128x128) ![l.val, i.val, 0, 0] S1x1x128x128.size (inb_c1 l i)).emb (Shape.reshapeEquiv (s' := S128x128) (s := S1x1x128x128) _ j) : S3x3x128x128.Idx) = _
  rw [reshapeEquiv_cons_one_one]
  funext a
  apply Fin.ext
  rw [Rect.emb_apply]
  fin_cases a <;> simp <;> rfl
theorem emb_slot2 (l : Fin 2) (i : Fin 7) (j : S128x128.Idx) : (slot2 l i).view.emb j = (ix4 (l.castLE (by decide)) i (j 0) (j 1) : S3x7x128x128.Idx) := by
  show ((Rect.unit (s := S3x7x128x128) ![l.val, i.val, 0, 0] S1x1x128x128.size (inb_c2 l i)).emb (Shape.reshapeEquiv (s' := S128x128) (s := S1x1x128x128) _ j) : S3x7x128x128.Idx) = _
  rw [reshapeEquiv_cons_one_one]
  funext a
  apply Fin.ext
  rw [Rect.emb_apply]
  fin_cases a <;> simp <;> rfl
theorem emb_src1 (l : Fin 2) (j : S128x128.Idx) : (src1 l).view.emb j = (ix3 (l.castLE (by decide)) (j 0) (j 1) : S3x128x128.Idx) := by
  show ((rS l).emb (Shape.reshapeEquiv (s' := S128x128) (s := S1x128x128) _ j) : S3x128x128.Idx) = _
  rw [Shape.reshapeEquiv_cons_one]
  funext a
  apply Fin.ext
  rw [Rect.emb_apply]
  fin_cases a <;> simp <;> rfl
theorem emb_src2 (l : Fin 2) (j : S128x128.Idx) : (src2 l).view.emb j = (ix3 (l.castLE (by decide)) (j 0) (j 1) : S3x128x128.Idx) := emb_src1 l j
theorem emb_slotR (i : Fin 31) (j : S4x128.Idx) : (slotR i).view.emb j = (ix3 i (j 0) (j 1) : S31x4x128.Idx) := by
  show ((Rect.unit (s := S31x4x128) ![i.val, 0, 0] S1x4x128.size (inb_cr i)).emb (Shape.reshapeEquiv (s' := S4x128) (s := S1x4x128) _ j) : S31x4x128.Idx) = _
  rw [Shape.reshapeEquiv_cons_one]
  funext a
  apply Fin.ext
  rw [Rect.emb_apply]
  fin_cases a <;> simp <;> rfl

/-- Row `4 d + r` of a 128-row array. -/
def rowOf (d : Dev nD) (r : Fin 4) : Fin 128 := ⟨4 * d.val + r.val, by have := d.isLt; change d.val < 32 at this; omega⟩

theorem emb_srcR (c : Dev nD) (i : Fin 31) (j : S4x128.Idx) : (srcR c i).view.emb j = (ix2 (rowOf (rsD c i) (j 0)) (j 1) : S128x128.Idx) := by
  funext a
  apply Fin.ext
  show ((Rect.unit (s := S128x128) (k0_off1 c (BitVec.ofNat 32 (1 + i.val))) S4x128.size (k0_off1_inb c i)).emb j a).val = _
  rw [Rect.emb_apply]
  fin_cases a <;> simp [off1_eq, rowOf] <;> rfl

/-! ## What is in the buffers -/

/-- A row of landing slots that holds `g i` in slot `i`, and what each of a whole layer's loads reads of it. -/
def fill1 (g : Fin 3 → S1x128x128.Idx → Val .bf16) : S3x3x128x128.Idx → Val .bf16 := fun x => g (x 1) (ix3 0 (x 2) (x 3))
@[inherit_doc fill1] def fill2 (g : Fin 7 → S1x128x128.Idx → Val .bf16) : S3x7x128x128.Idx → Val .bf16 := fun x => g (x 1) (ix3 0 (x 2) (x 3))
@[inherit_doc fill1] def gath1 (g : Fin 3 → S1x128x128.Idx → Val .bf16) : S1x3x128x128.Idx → Val .bf16 := fun x => g (x 1) (ix3 0 (x 2) (x 3))
@[inherit_doc fill1] def gath2 (g : Fin 7 → S1x128x128.Idx → Val .bf16) : S1x7x128x128.Idx → Val .bf16 := fun x => g (x 1) (ix3 0 (x 2) (x 3))
/-- A send buffer whose layer holds `s`. -/
def fillS (s : S1x128x128.Idx → Val .bf16) : S3x128x128.Idx → Val .bf16 := fun x => s (ix3 0 (x 1) (x 2))
/-- The reduce-scatter's landing buffer on `c` when device `d`'s last product is `g d`. -/
def fillR (g : Dev nD → S128x128.Idx → Val .f32) (c : Dev nD) : S31x4x128.Idx → Val .f32 := fun x => g (rsD c (x 0).rev) (ix2 (rowOf c (x 1)) (x 2))
/-- The rows of an array that are `c`'s. -/
def ownRows (p : S128x128.Idx → Val .f32) (c : Dev nD) : S4x128.Idx → Val .f32 := fun x => p (ix2 (rowOf c (x 0)) (x 1))

theorem exists_emb {κ sp s e} {v : View sig κ sp s e} {x : v.ty.Idx} (hx : x ∈ v.set) : ∃ j, v.emb j = x := by
  simpa [View.set, View.setOn] using hx

theorem land1 (l : Fin 2) (i : Fin 3) (g : Fin 3 → S1x128x128.Idx → Val .bf16) (s : S1x128x128.Idx → Val .bf16) (h : g i = s)
    (fd : S3x3x128x128.Idx → Val .bf16) (x : S3x3x128x128.Idx) (hx : x ∈ (slot1 l i).view.set) :
    (slot1 l i).view.write Val fd ((src1 l).view.read Val (fillS s)) Finset.univ x = fill1 g x := by
  obtain ⟨j, rfl⟩ := exists_emb hx
  rw [View.write_emb_of_mem (h := Finset.mem_univ j), View.read_apply, emb_src1, emb_slot1, ← h]
  rfl
theorem land2 (l : Fin 2) (i : Fin 7) (g : Fin 7 → S1x128x128.Idx → Val .bf16) (s : S1x128x128.Idx → Val .bf16) (h : g i = s)
    (fd : S3x7x128x128.Idx → Val .bf16) (x : S3x7x128x128.Idx) (hx : x ∈ (slot2 l i).view.set) :
    (slot2 l i).view.write Val fd ((src2 l).view.read Val (fillS s)) Finset.univ x = fill2 g x := by
  obtain ⟨j, rfl⟩ := exists_emb hx
  rw [View.write_emb_of_mem (h := Finset.mem_univ j), View.read_apply, emb_src2, emb_slot2, ← h]
  rfl
theorem landR (c : Dev nD) (i : Fin 31) (g : Dev nD → S128x128.Idx → Val .f32)
    (fd : S31x4x128.Idx → Val .f32) (x : S31x4x128.Idx) (hx : x ∈ (slotR i).view.set) :
    (slotR i).view.write Val fd ((srcR c i).view.read Val (g c)) Finset.univ x = fillR g (rsD c i) x := by
  obtain ⟨j, rfl⟩ := exists_emb hx
  rw [View.write_emb_of_mem (h := Finset.mem_univ j), View.read_apply, emb_srcR, emb_slotR]
  show g c _ = g (rsD (rsD c i) i.rev) _
  rw [rsD_rev]

theorem stored1 (l : Fin 2) (f : S3x128x128.Idx → Val .bf16) (w : S1x128x128.Idx → Val .bf16) (x : S3x128x128.Idx) (hx : x ∈ (src1 l).view.set) :
    (s1M.access (rS l)).write Val f w Finset.univ x = fillS w x := by
  rw [set_src1, ← View.set_slice_whole cc0_scratch2] at hx
  obtain ⟨j, rfl⟩ := exists_emb hx
  refine (View.write_emb_of_mem (v := s1M.access (rS l)) f w (Finset.mem_univ j)).trans ?_
  show w j = w (ix3 0 ((rS l).emb j 1) ((rS l).emb j 2))
  congr 1
  funext a
  apply Fin.ext
  fin_cases a
  · have := (j 0).isLt; simp at this ⊢; omega
  · simp [Rect.emb_apply]
  · simp [Rect.emb_apply]; rfl
theorem stored2 (l : Fin 2) (f : S3x128x128.Idx → Val .bf16) (w : S1x128x128.Idx → Val .bf16) (x : S3x128x128.Idx) (hx : x ∈ (src2 l).view.set) :
    (s2M.access (rS l)).write Val f w Finset.univ x = fillS w x := stored1 l f w x hx

theorem read1 (l : Fin 2) (g : Fin 3 → S1x128x128.Idx → Val .bf16) : c1M.view.readAt Val (rC1 l).toLoadRect (fill1 g) = gath1 g := by
  funext x
  show g ((rC1 l).emb x 1) (ix3 0 ((rC1 l).emb x 2) ((rC1 l).emb x 3)) = g (x 1) (ix3 0 (x 2) (x 3))
  congr 1
  · congr 1; apply Fin.ext; simp [Rect.emb_apply]
  · congr 1 <;> (apply Fin.ext; simp [Rect.emb_apply])
theorem read2 (l : Fin 2) (g : Fin 7 → S1x128x128.Idx → Val .bf16) : c2M.view.readAt Val (rC2 l).toLoadRect (fill2 g) = gath2 g := by
  funext x
  show g ((rC2 l).emb x 1) (ix3 0 ((rC2 l).emb x 2) ((rC2 l).emb x 3)) = g (x 1) (ix3 0 (x 2) (x 3))
  congr 1
  · congr 1; apply Fin.ext; simp [Rect.emb_apply]
  · congr 1 <;> (apply Fin.ext; simp [Rect.emb_apply])
theorem readR (f : S31x4x128.Idx → Val .f32) : crM.view.readAt Val rCr.toLoadRect f = f := by
  funext x
  show f (rCr.emb x) = f x
  congr 1
  funext a
  apply Fin.ext
  fin_cases a <;> simp [Rect.emb_apply]
theorem readOwn (c : Dev nD) (p : S128x128.Idx → Val .f32) : srM.view.readAt Val (rOwn c).toLoadRect p = ownRows p c := by
  funext x
  show p ((rOwn c).emb x) = p (ix2 (rowOf c (x 0)) (x 1))
  congr 1
  funext a
  apply Fin.ext
  fin_cases a <;> simp [Rect.emb_apply, rowOf, k0_off2_eq]

/-! ## What the loads and stores touch -/

theorem touch1 (l : Fin 2) : c1M.view.setOn (rC1 l).toLoadRect.set ⊆ Finset.univ.biUnion fun i => (slot1 l i).view.set := by
  intro x hx
  have hx : x ∈ (rC1 l).set := by rw [← View.set_slice_whole cc0_scratch0]; rw [View.set_slice]; exact hx
  have h0 := Rect.mem_set_unit.mp hx (0 : Fin 4)
  have h1 := (x 1).isLt
  refine Finset.mem_biUnion.mpr ⟨x 1, Finset.mem_univ _, (mem_slot1 _ _ x).mpr ⟨?_, rfl⟩⟩
  simp at h0
  omega
theorem touch2 (l : Fin 2) : c2M.view.setOn (rC2 l).toLoadRect.set ⊆ Finset.univ.biUnion fun i => (slot2 l i).view.set := by
  intro x hx
  have hx : x ∈ (rC2 l).set := by rw [← View.set_slice_whole cc0_scratch1]; rw [View.set_slice]; exact hx
  have h0 := Rect.mem_set_unit.mp hx (0 : Fin 4)
  refine Finset.mem_biUnion.mpr ⟨x 1, Finset.mem_univ _, (mem_slot2 _ _ x).mpr ⟨?_, rfl⟩⟩
  simp at h0
  omega
theorem touchS1 (l : Fin 2) : s1M.view.setOn (rS l).toLoadRect.set ⊆ (src1 l).view.set := by
  intro x hx
  rw [set_src1, ← View.set_slice_whole cc0_scratch2, View.set_slice]; exact hx
theorem touchS2 (l : Fin 2) : s2M.view.setOn (rS l).toLoadRect.set ⊆ (src2 l).view.set := touchS1 l
theorem touchW1 (l : Fin 2) : (s1M.access (rS l)).setOn Finset.univ ⊆ (src1 l).view.set := by
  rw [set_src1, ← View.set_slice_whole cc0_scratch2]; exact Finset.Subset.refl _
theorem touchW2 (l : Fin 2) : (s2M.access (rS l)).setOn Finset.univ ⊆ (src2 l).view.set := touchW1 l
theorem touchR : crM.view.setOn rCr.toLoadRect.set ⊆ Finset.univ.biUnion fun i => (slotR i).view.set := by
  intro x _
  exact Finset.mem_biUnion.mpr ⟨x 0, Finset.mem_univ _, (mem_slotR _ x).mpr rfl⟩
theorem touchOwn (c : Dev nD) : srM.view.setOn (rOwn c).toLoadRect.set ⊆ Finset.univ \ Finset.univ.biUnion fun i => (srcR c i).view.set := by
  intro x hx
  have hx : x ∈ (rOwn c).set := by rw [← View.set_slice_whole cc0_scratch5]; rw [View.set_slice]; exact hx
  rw [mem_rOwn] at hx
  refine Finset.mem_sdiff.mpr ⟨Finset.mem_univ _, fun h => ?_⟩
  obtain ⟨i, -, hi⟩ := Finset.mem_biUnion.mp h
  exact rsD_ne c i (Fin.ext (((mem_srcR c i x).mp hi).symm.trans hx))

end Cert.Allreduce
-- ==== Proof.Proto.lean ====
/-
# The protocol

What each device pays on each semaphore, with what, and in which order: the duties of the copies and signals, the contents of every buffer,
the schedule of the semaphores' cells, what a device owes, and the levels.
-/
module

public import proofs.«01_k».proof.Proof.Slots
public import proofs.«01_k».proof.Proof.Gen.KernelIdeal.Launch
public import Idealize.ShloMosaic.Lib.Pipeline.BigSepL
public import Idealize.ShloMosaic.Lib.Transfers
public import Idealize.ShloMosaic.Lib.Tactic

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

/-! ## The duties -/

/-- The payments: signals along the row and the column, copies landing in a row's, a column's or the last phase's slot, and copies having
    left for those. -/
inductive Duty
  | barR (i : Fin 3) | barC (i : Fin 7) | r1 (l : Fin 2) (i : Fin 3) | r2 (l : Fin 2) (i : Fin 7) | rs (i : Fin 31)
  | s1 (l : Fin 2) (i : Fin 3) | s2 (l : Fin 2) (i : Fin 7) | sr (i : Fin 31)
  deriving DecidableEq

/-- The payments a device makes on other devices, in order. -/
def owed : List Duty := l3.map .barR ++ (l7.map .barC ++ (l3.map (.r1 0) ++ (l7.map (.r2 0) ++ (l3.map (.r1 1) ++ (l7.map (.r2 1) ++ (l31.map .rs ++ []))))))
/-- The payments it makes to itself, in order. -/
def own : List Duty := l3.map (.s1 0) ++ (l7.map (.s2 0) ++ (l3.map (.s1 1) ++ (l7.map (.s2 1) ++ (l31.map .sr ++ []))))

theorem mem_all (d : Duty) : d ∈ owed ++ own := by
  cases d with
  | barR i => revert i; decide
  | barC i => revert i; decide
  | r1 l i => revert l i; decide
  | r2 l i => revert l i; decide
  | rs i => revert i; decide
  | s1 l i => revert l i; decide
  | s2 l i => revert l i; decide
  | sr i => revert i; decide
theorem nodup_all : (owed ++ own).Nodup := by decide +kernel

instance : Fintype Duty := ⟨(owed ++ own).toFinset, fun d => List.mem_toFinset.mpr (mem_all d)⟩

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The kernel's own semaphores. -/
abbrev osem : Fin 9 → SemLoc sig := fun
  | 0 => .dma (8 : DmaSem sig) | 1 => .dma (9 : DmaSem sig) | 2 => .dma (10 : DmaSem sig) | 3 => .dma (11 : DmaSem sig) | 4 => .dma (12 : DmaSem sig)
  | 5 => .dma (13 : DmaSem sig) | 6 => .dma (14 : DmaSem sig) | 7 => .dma (15 : DmaSem sig) | 8 => .dma (16 : DmaSem sig)
/-- With the barrier semaphore first. -/
def csem (k : Fin 10) : SemLoc sig := Fin.cases (.reg barS) osem k

theorem csem_injective : Function.Injective csem := by decide

/-- The semaphore each duty is counted on. -/
def dk : Duty → Fin 10
  | .barR _ => 0 | .barC _ => 0 | .s1 _ _ => 1 | .s2 _ _ => 1 | .sr _ => 9
  | .r1 l _ => ⟨2 + l.val, by omega⟩ | .r2 l _ => ⟨5 + l.val, by omega⟩ | .rs _ => 8

theorem csem_bar : csem 0 = .reg barS := rfl
theorem csem_send : csem 1 = .dma sendS := rfl
theorem csem_r1 (l : Fin 2) (i : Fin 3) : csem (dk (.r1 l i)) = .dma (r1S l) := by revert l i; decide
theorem csem_r2 (l : Fin 2) (i : Fin 7) : csem (dk (.r2 l i)) = .dma (r2S l) := by revert l i; decide
theorem csem_rr : csem 8 = .dma rrS := rfl
theorem csem_sr : csem 9 = .dma srS := rfl

abbrev kcell (ck : Dev nD × Fin 10) : GSem nD τ sig := ((ck.1 : Thread nD τ), csem ck.2)

/-- The device that a device's payment of a duty goes to. -/
def tgt (c : Dev nD) : Duty → Dev nD
  | .barR i => rowD c i | .barC i => colD c i | .r1 _ i => rowD c i | .r2 _ i => colD c i | .rs i => rsD c i
  | .s1 _ _ => c | .s2 _ _ => c | .sr _ => c

abbrev payCell (c : Dev nD) (d : Duty) : GSem nD τ sig := kcell (tgt c d, dk d)

/-- The credit of a whole array's copy and of four rows' copy. -/
def N : ℕ := (slot1 0 0).view.dmaCredit
@[inherit_doc N] def M : ℕ := (slotR 0).view.dmaCredit
theorem N_pos : 0 < N := View.dmaCredit_pos _ (by decide)
theorem M_pos : 0 < M := View.dmaCredit_pos _ (by decide)

/-- One payment's amount on each semaphore, and how many payments there are. -/
def ak : Fin 10 → ℕ := ![1, N, N, N, N, N, N, N, M, M]
def nk : Fin 10 → ℕ := ![10, 20, 3, 3, 0, 7, 7, 0, 31, 31]

theorem ak_pos (k : Fin 10) : 0 < ak k := by
  have := N_pos; have := M_pos
  fin_cases k <;> simp [ak] <;> assumption

theorem card_dk (k : Fin 10) : (Finset.univ.filter fun d => dk d = k).card = nk k := by revert k; decide +kernel

/-! ## The contents -/

section Values
variable (m : (ℓ : Loc nD τ sig) → Buf (Elt F) ℓ)

/-- The blocks of the arguments on device `c`. -/
def xA (c : Dev nD) : (cc0_stg0_0 : Ref sig .tc).ty.Contents (Elt F) := (win0_0.blk (0 : Fin 1)).view.read (Elt F) (m ((c : Thread nD τ).loc main_arg0))
@[inherit_doc xA] def wi0A (c : Dev nD) : (cc0_stg1_0 : Ref sig .tc).ty.Contents (Elt F) := (win0_1.blk (0 : Fin 1)).view.read (Elt F) (m ((c : Thread nD τ).loc main_arg1))
@[inherit_doc xA] def wo0A (c : Dev nD) : (cc0_stg2_0 : Ref sig .tc).ty.Contents (Elt F) := (win0_2.blk (0 : Fin 1)).view.read (Elt F) (m ((c : Thread nD τ).loc main_arg4))
@[inherit_doc xA] def wi1A (c : Dev nD) : (cc0_stg3_0 : Ref sig .tc).ty.Contents (Elt F) := (win0_3.blk (0 : Fin 1)).view.read (Elt F) (m ((c : Thread nD τ).loc main_arg2))
@[inherit_doc xA] def wo1A (c : Dev nD) : (cc0_stg4_0 : Ref sig .tc).ty.Contents (Elt F) := (win0_4.blk (0 : Fin 1)).view.read (Elt F) (m ((c : Thread nD τ).loc main_arg5))
@[inherit_doc xA] def wi2A (c : Dev nD) : (cc0_stg5_0 : Ref sig .tc).ty.Contents (Elt F) := (win0_5.blk (0 : Fin 1)).view.read (Elt F) (m ((c : Thread nD τ).loc main_arg3))
@[inherit_doc xA] def wo2A (c : Dev nD) : (cc0_stg6_0 : Ref sig .tc).ty.Contents (Elt F) := (win0_6.blk (0 : Fin 1)).view.read (Elt F) (m ((c : Thread nD τ).loc main_arg6))

/-- Layer by layer: `part` a device's own product, `snd1`, `got1` what its first phase sends and receives, `row` the sum over its row,
    `snd2`, `got2` the second phase's. -/
def part0 (c : Dev nD) : FVec F S128x128 .f32 := k0_pay1 (xA m c) (wi0A m c) (wo0A m c)
def snd10 (c : Dev nD) : FVec F S1x128x128 .bf16 := k0_pay2 (xA m c) (wi0A m c) (wo0A m c)
def got10 (c : Dev nD) : Vec F S1x3x128x128 .bf16 := gath1 fun i => snd10 m (rowD c i.rev)
def row0 (c : Dev nD) : FVec F S128x128 .f32 := k0_pay3 (part0 m c) (got10 m c)
def snd20 (c : Dev nD) : FVec F S1x128x128 .bf16 := k0_pay4 (part0 m c) (got10 m c)
def got20 (c : Dev nD) : Vec F S1x7x128x128 .bf16 := gath2 fun i => snd20 m (colD c i.rev)
def part1 (c : Dev nD) : FVec F S128x128 .f32 := k0_pay5 (row0 m c) (got20 m c) (wi1A m c) (wo1A m c)
def snd11 (c : Dev nD) : FVec F S1x128x128 .bf16 := k0_pay6 (row0 m c) (got20 m c) (wi1A m c) (wo1A m c)
def got11 (c : Dev nD) : Vec F S1x3x128x128 .bf16 := gath1 fun i => snd11 m (rowD c i.rev)
def row1 (c : Dev nD) : FVec F S128x128 .f32 := k0_pay7 (part1 m c) (got11 m c)
def snd21 (c : Dev nD) : FVec F S1x128x128 .bf16 := k0_pay9 (k0_pay8 (part1 m c) (got11 m c))
def got21 (c : Dev nD) : Vec F S1x7x128x128 .bf16 := gath2 fun i => snd21 m (colD c i.rev)
def part2 (c : Dev nD) : FVec F S128x128 .f32 := k0_pay12 (k0_pay10 (row1 m c) (got21 m c) (wi2A m c)) k0_pay11 (wo2A m c)
/-- The device's rows of the result. -/
def outA (c : Dev nD) : FVec F S4x128 .f32 := k0_pay13 (ownRows (part2 m c) c) (fillR (part2 m) c)

def snd1 (l : Fin 2) (c : Dev nD) : FVec F S1x128x128 .bf16 := match l with | 0 => snd10 m c | 1 => snd11 m c
def snd2 (l : Fin 2) (c : Dev nD) : FVec F S1x128x128 .bf16 := match l with | 0 => snd20 m c | 1 => snd21 m c

end Values

/-! ## The payloads -/

/-- A slot of a device, held at a share with its contents. -/
abbrev held (c : Dev nD) {sp : Space} {s : Shape} {e : EltTy} (v : Memref sig .tc sp s e) (q : PosShare TreeShare) (f : Buf (Elt F) (v.view.loc (c : Thread nD τ))) : sProp 𝕄 :=
  v.view.loc (c : Thread nD τ) ↦[v.view.set]{q} f
/-- A slot of a device, held whole, whatever it has. -/
def free (c : Dev nD) {sp : Space} {s : Shape} {e : EltTy} (v : Memref sig .tc sp s e) : sProp 𝕄 := iprop(∃ f, held (F := F) c v fullShare f)

/-- The slot on `p` where `d`'s last copy lands. -/
def landing (p d : Dev nD) : sProp 𝕄 := if p = d then iprop(emp) else free p (slotR (ixR p d))

variable (m : (ℓ : Loc nD τ sig) → Buf (Elt F) ℓ)

/-- What a payment of each duty hands device `c`. -/
def pay (c : Dev nD) : Duty → sProp 𝕄
  | .barR i => iprop(free (rowD c i.rev) (slot1 0 i.rev) ∗ free (rowD c i.rev) (slot1 1 i.rev)
      ∗ bigSep Finset.univ fun b : Fin 8 => landing (rowD c i.rev) (colF c b))
  | .barC i => iprop(free (colD c i.rev) (slot2 0 i.rev) ∗ free (colD c i.rev) (slot2 1 i.rev))
  | .r1 l i => held c (slot1 l i) fullShare (fill1 fun i => snd1 m l (rowD c i.rev))
  | .r2 l i => iprop(held c (slot2 l i) fullShare (fill2 fun i => snd2 m l (colD c i.rev))
      ∗ if l = 0 then bigSep Finset.univ fun a : Fin 4 => landing (rowF (colD c i.rev) a) c else iprop(emp))
  | .rs i => held c (slotR i) fullShare (fillR (part2 m) c)
  | .s1 l i => held c (src1 l) (Transfers.shareTok fullShare 3 i) (fillS (snd1 m l c))
  | .s2 l i => held c (src2 l) (Transfers.shareTok fullShare 7 i) (fillS (snd2 m l c))
  | .sr i => held c (srcR c i) fullShare (part2 m c)

instance free_storable (c : Dev nD) {sp : Space} {s : Shape} {e : EltTy} (v : Memref sig .tc sp s e) : BI.Storable (upEmb : UEmb _ 𝕄) (free (F := F) c v) := by
  unfold free; infer_instance

instance landing_storable (p d : Dev nD) : BI.Storable (upEmb : UEmb _ 𝕄) (landing (F := F) p d) := by
  unfold landing; split <;> infer_instance

instance pay_storable (c : Dev nD) (d : Duty) : BI.Storable (upEmb : UEmb _ 𝕄) (pay m c d) := by
  cases d with
  | r2 l i =>
    show BI.Storable upEmb (iprop(_ ∗ if l = 0 then _ else _))
    by_cases h : l = 0
    · rw [if_pos h]; infer_instance
    · rw [if_neg h]; infer_instance
  | barR i =>
    show BI.Storable upEmb (iprop(free (rowD c i.rev) (slot1 0 i.rev) ∗ free (rowD c i.rev) (slot1 1 i.rev)
      ∗ bigSep Finset.univ fun b : Fin 8 => landing (rowD c i.rev) (colF c b)))
    infer_instance
  | barC i =>
    show BI.Storable upEmb (iprop(free (colD c i.rev) (slot2 0 i.rev) ∗ free (colD c i.rev) (slot2 1 i.rev)))
    infer_instance
  | _ => unfold pay; infer_instance

/-! ## The schedule -/

/-- One round: on each semaphore the payments counted on it. -/
def Rd : Rounds.Schedule (GSem nD τ sig) Duty 𝕄 where
  duties g r := if r = 0 ∧ g.1.2 = .tc then Finset.univ.filter fun d => csem (dk d) = g.2 else ∅
  unitless _ := False
  amount _ _ d := ak (dk d)
  payload g _ d := pay m g.1.1 d
  amount_pos _ _ d _ := ak_pos (dk d)

instance Rd_payload_storable (g : GSem nD τ sig) (r : ℕ) (d : Duty) : BI.Storable (upEmb : UEmb _ 𝕄) ((Rd (F := F) m).payload g r d) :=
  pay_storable m g.1.1 d

theorem duties_kcell (c : Dev nD) (k : Fin 10) : (Rd (F := F) m).duties (kcell (c, k)) 0 = Finset.univ.filter fun d => dk d = k := by
  dsimp only [Rd]
  rw [if_pos ⟨rfl, rfl⟩]
  exact Finset.filter_congr fun d _ => csem_injective.eq_iff
theorem mem_duties (c : Dev nD) (d : Duty) : d ∈ (Rd (F := F) m).duties (kcell (c, dk d)) 0 := by
  rw [duties_kcell]; exact Finset.mem_filter.mpr ⟨Finset.mem_univ _, rfl⟩
theorem duties_later (g : GSem nD τ sig) : ∀ r, 1 ≤ r → (Rd (F := F) m).duties g r = ∅ :=
  fun r hr => by dsimp only [Rd]; rw [if_neg fun h => by omega]
theorem expect_kcell (c : Dev nD) (k : Fin 10) : (Rd (F := F) m).expect (kcell (c, k)) 0 = nk k * ak k := by
  unfold Schedule.expect Schedule.amountOf
  rw [duties_kcell]
  refine (Finset.sum_congr rfl (g := fun _ => ak k) fun d hd => ?_).trans ?_
  · exact congrArg ak (Finset.mem_filter.mp hd).2
  · rw [Finset.sum_const, card_dk, smul_eq_mul]

/-! ## What is owed -/

/-- What device `c` owes while the payments of a list are still to be made. -/
def owedL (c : Dev nD) (l : List Duty) : CellTallies nD τ sig Unit := (l.map fun d => tallyAt (payCell c d) () (ak (dk d))).sum

theorem owedL_cons (c : Dev nD) (d : Duty) (l : List Duty) : owedL c (d :: l) = owedL c l + tallyAt (payCell c d) () (ak (dk d)) := by
  unfold owedL; rw [List.map_cons, List.sum_cons, add_comm]

theorem owedL_pos {c : Dev nD} {l : List Duty} {g : GSem nD τ sig} {u : Unit} (h : 0 < owedL c l g u) : ∃ d ∈ l, g = payCell c d := by
  induction l with
  | nil => exact absurd h (Nat.lt_irrefl 0)
  | cons d l ih =>
    rw [owedL_cons, Pi.add_apply, Finsupp.add_apply] at h
    by_cases h' : 0 < owedL c l g u
    · obtain ⟨d', hd, e⟩ := ih h'; exact ⟨d', List.mem_cons_of_mem _ hd, e⟩
    · refine ⟨d, List.mem_cons_self, ?_⟩
      by_contra hn
      rw [tallyAt_apply, if_neg (fun hh => hn hh.1)] at h
      omega

/-! ## The levels -/

def L (g : GSem nD τ sig) : Finset Unit := if g.1.2 = .tc then {()} else ∅
def lk : Fin 10 → ℕ := ![1, 0, 2, 4, 0, 3, 5, 0, 6, 0]
/-- The barrier first, then each phase's receive semaphore in the order of the phases; everything else at 0. -/
def lv (g : GSem nD τ sig) (_ : Unit) : ℕ := ∑ k : Fin 10, if g.2 = csem k then lk k else 0

theorem lv_kcell (c : Dev nD) (k : Fin 10) (u : Unit) : lv (kcell (c, k)) u = lk k := by
  unfold lv
  rw [Finset.sum_eq_single k (fun k' _ h => if_neg fun e => h (csem_injective e).symm) (fun h => absurd (Finset.mem_univ _) h), if_pos rfl]

theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore below all that it owes. -/
theorem mayWait (c : Dev nD) (sm : SemLoc sig) (l : List Duty) (n : ℕ) (hn : lv ((c : Thread nD τ), sm) () ≤ n) (h : ∀ d ∈ l, n < lk (dk d)) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨d, -, rfl⟩ := owedL_pos hg; rw [L_tc]; exact Finset.mem_singleton_self _)
    (fun p hp => by rw [Finset.mem_singleton.mp hp]; exact hn)
    (fun g u hg => by obtain ⟨d, hd, rfl⟩ := owedL_pos hg; rw [lv_kcell]; exact h d hd)

end Cert.Allreduce
-- ==== Proof.Loops.lean ====
/-
# The loops of signals, copies and waits

One lemma for each kind of loop, whatever its length: what each pass takes and what it gives back.
-/
module

public import proofs.«01_k».proof.Proof.Proto

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 10 → ℕ)

abbrev 𝒱₀ : Variants := Variants.none

/-- What every device knows: each cell's invariant, that each cell is at its round, and the levels. -/
def records : sProp 𝕄 :=
  iprop((bigSep Finset.univ fun ck : Dev nD × Fin 10 => cellInv ER (Rd m) (K ck) (kcell ck))
    ∗ (bigSep Finset.univ fun ck : Dev nD × Fin 10 => reached ER (kcell ck) 0) ∗ levAts L lv)

instance records_persistent : BI.Persistent (records m K) := by unfold records; infer_instance

theorem bigSep_at {I : Type} [Fintype I] [DecidableEq I] (Φ : I → sProp 𝕄) (i : I) : bigSep Finset.univ Φ ⊢ Φ i := bigSep_elim (Finset.mem_univ i)

theorem inv_at (ck : Dev nD × Fin 10) : records m K ⊢ cellInv ER (Rd m) (K ck) (kcell ck) := by
  unfold records
  iintro ⟨H, -, -⟩
  iapply (bigSep_at (fun ck : Dev nD × Fin 10 => (cellInv ER (Rd m) (K ck) (kcell ck) : sProp 𝕄)) ck); iexact H
theorem reached_at (ck : Dev nD × Fin 10) : records m K ⊢ reached ER (kcell ck) 0 := by
  unfold records
  iintro ⟨-, H, -⟩
  iapply (bigSep_at (fun ck : Dev nD × Fin 10 => (reached ER (kcell ck) 0 : sProp 𝕄)) ck); iexact H
theorem lev_at : records m K ⊢ (levAts L lv : sProp 𝕄) := by
  unfold records
  iintro ⟨-, -, H⟩
  iexact H

theorem payload_eq (c : Dev nD) (sm : SemLoc sig) (r : ℕ) (d : Duty) : (Rd (F := F) m).payload ((c : Thread nD τ), sm) r d = pay m c d := rfl

abbrev tok (c : Dev nD) (d : Duty) : sProp 𝕄 := dutyTok ER (payCell c d) 0 d
abbrev wpB (c : Dev nD) (p : P F) (Q : PUnit → sProp 𝕄) : sProp 𝕄 := wp frame (wpE (defs₀ (F := F)) 𝒱₀ (c : Thread nD τ) none) Set.univ p Q

theorem signals_loop {n : ℕ} (c : Dev nD) (dev : Fin n → Dev nD) (du : Fin n → Duty) (hdev : ∀ i, dev i = tgt c (du i)) (hk : ∀ i, dk (du i) = 0)
    (rest : List Duty) (W : Waits sig Unit) (k : P F) (Q : PUnit → sProp 𝕄) (l : List (Fin n)) :
    iprop(records m K ∗ owes (c : Thread nD τ) (owedL c (l.map du ++ rest)) W
        ∗ bigSepL l fun i => iprop(tok c (du i) ∗ pay m (tgt c (du i)) (du i)))
      ⊢ iprop((owes (c : Thread nD τ) (owedL c rest) W -∗ wpB c k Q) -∗ wpB c (signals dev l k) Q) := by
  obtain rfl : dev = fun i => tgt c (du i) := funext hdev
  induction l with
  | nil =>
    iintro ⟨-, HO, -⟩ Hk
    iapply Hk; iexact HO
  | cons i l ih =>
    rw [bigSepL_cons', List.map_cons, List.cons_append, owedL_cons]
    iintro ⟨#HR, HO, ⟨Ht, Hp⟩, Hl⟩ Hk
    have hd : du i ∈ (Rd (F := F) m).duties (((tgt c (du i) : Dev nD) : Thread nD τ), .reg barS) 0 := by
      have := mem_duties (F := F) m (tgt c (du i)) (du i); rwa [hk i] at this
    have ha : ak (dk (du i)) = 1 := by rw [hk i]; rfl
    have hc : payCell c (du i) = ((((tgt c (du i) : Dev nD) : Thread nD τ), .reg barS) : GSem nD τ sig) := by unfold payCell kcell; rw [hk i]; rfl
    have hO : owedL c (l.map du ++ rest) + tallyAt (payCell c (du i)) () (ak (dk (du i)))
        = owedL c (l.map du ++ rest) + tallyAt ((((tgt c (du i) : Dev nD) : Thread nD τ), .reg barS) : GSem nD τ sig) () (1#32 : BitVec 32).toNat := by
      rw [hc, ha]; rfl
    unfold signals
    iapply (Rounds.wp_signal 𝒱₀ ER (Rd m) (c : Thread nD τ) none (dst := ((tgt c (du i) : Dev nD) : Thread nD τ)) (κ := K (tgt c (du i), 0))
      (d := du i) hd (ha.trans (by decide)) () (owedL c (l.map du ++ rest)) hO) $$ [HO Ht Hp]
    · isplitr; · iapply (inv_at m K (tgt c (du i), 0)); iexact HR
      isplitl [HO]; · iexact HO
      isplitl [Ht]; · unfold tok; rw [hc]; iexact Ht
      isplitl [Hp]; · rw [payload_eq]; iexact Hp
      iapply (reached_at m K (tgt c (du i), 0)); iexact HR
    iintro HO
    iapply ih $$ [HO Hl] [Hk]
    · isplitr; · iexact HR
      isplitl [HO]; · iexact HO
      iexact Hl
    · iexact Hk

/-- A loop of copies: each takes the elements it sends, the place they land in, whatever else its landing hands over, and its two tokens. -/
theorem sends_loop {n : ℕ} {s : Shape} {e : EltTy} (c : Dev nD) (src dst : Fin n → Memref sig .tc .vmem s e) (dev : Fin n → Dev nD) (sS rS : DmaSem sig)
    (hs : ∀ i, (src i).view.WordExact) (hd : ∀ i, (dst i).view.WordExact)
    (ds dr : Fin n → Duty) (hdev : ∀ i, dev i = tgt c (dr i)) (hown : ∀ i, tgt c (ds i) = c)
    (hsS : ∀ i, csem (dk (ds i)) = .dma sS) (hrS : ∀ i, csem (dk (dr i)) = .dma rS)
    (hN : ∀ i, (dst i).view.amount (.dma rS) = ak (dk (dr i))) (hA : ∀ i, ak (dk (ds i)) = ak (dk (dr i)))
    (q : Fin n → PosShare TreeShare) (fs : ∀ i, Buf (Elt F) ((src i).view.loc (c : Thread nD τ))) (G : Fin n → sProp 𝕄)
    (hp1 : ∀ i, held c (src i) (q i) (fs i) ⊢ pay m c (ds i))
    (hp2 : ∀ i fd, iprop(held (tgt c (dr i)) (dst i) fullShare ((dst i).view.write (Elt F) fd ((src i).view.read (Elt F) (fs i)) Finset.univ) ∗ G i)
      ⊢ pay m (tgt c (dr i)) (dr i))
    (rest : List Duty) (W : Waits sig Unit) (k : P F) (Q : PUnit → sProp 𝕄) (l : List (Fin n)) :
    iprop(records m K ∗ owes (c : Thread nD τ) (owedL c (l.map dr ++ rest)) W
        ∗ bigSepL l fun i => iprop(held c (src i) (q i) (fs i) ∗ free (tgt c (dr i)) (dst i) ∗ G i ∗ tok c (ds i) ∗ tok c (dr i)))
      ⊢ iprop(((bigSepL l fun i => cred (tallyAt (payCell c (ds i)) () (ak (dk (ds i))))) ∗ owes (c : Thread nD τ) (owedL c rest) W -∗ wpB c k Q)
          -∗ wpB c (sends src dst dev sS rS hs hd l k) Q) := by
  obtain rfl : dev = fun i => tgt c (dr i) := funext hdev
  induction l with
  | nil =>
    iintro ⟨-, HO, Hl⟩ Hk
    iapply Hk
    isplitl [Hl]; · iexact Hl
    iexact HO
  | cons i l ih =>
    rw [bigSepL_cons', bigSepL_cons', List.map_cons, List.cons_append, owedL_cons]
    iintro ⟨#HR, HO, ⟨Hsrc, Hdst, HG, Hts, Htr⟩, Hl⟩ Hk
    have hcs : payCell c (ds i) = (((c : Thread nD τ), .dma sS) : GSem nD τ sig) := by unfold payCell kcell; rw [hown i, hsS i]
    have hcr : payCell c (dr i) = ((((tgt c (dr i) : Dev nD) : Thread nD τ), .dma rS) : GSem nD τ sig) := by unfold payCell kcell; rw [hrS i]
    have hds : ds i ∈ (Rd (F := F) m).duties ((c : Thread nD τ), .dma sS) 0 := by rw [← hcs]; exact mem_duties m _ _
    have hdr : dr i ∈ (Rd (F := F) m).duties (((tgt c (dr i) : Dev nD) : Thread nD τ), .dma rS) 0 := by rw [← hcr]; exact mem_duties m _ _
    have hO : owedL c (l.map dr ++ rest) + tallyAt (payCell c (dr i)) () (ak (dk (dr i)))
        = owedL c (l.map dr ++ rest) + tallyAt ((((tgt c (dr i) : Dev nD) : Thread nD τ), .dma rS) : GSem nD τ sig) () (ak (dk (dr i))) := by rw [hcr]
    unfold sends
    unfold free
    icases Hdst with ⟨%fd, Hdst⟩
    iapply (Rounds.wp_send_pointsTo_with 𝒱₀ ER (Rd m) (c : Thread nD τ) none (κ₁ := K (tgt c (ds i), dk (ds i))) (κ₂ := K (tgt c (dr i), dk (dr i)))
      (r₁ := 0) (r₂ := 0) (d₁ := ds i) (d₂ := dr i) (fd := fd) (F := G i) hds hdr () () (ak (dk (dr i))) (hN i) (hA i) rfl
      (owedL c (l.map dr ++ rest)) hO (W := W) (by rw [payload_eq]; exact hp1 i) (by rw [payload_eq]; exact hp2 i fd)) $$ [HO Hsrc Hdst HG Hts Htr]
    · isplitr; · rw [← hcs]; iapply (inv_at m K (tgt c (ds i), dk (ds i))); iexact HR
      isplitr; · rw [← hcr]; iapply (inv_at m K (tgt c (dr i), dk (dr i))); iexact HR
      isplitl [Hsrc]; · iexact Hsrc
      isplitl [Hdst HG]
      · isplitl [Hdst]; · iexact Hdst
        iexact HG
      isplitl [HO]; · iexact HO
      isplitl [Hts]; · rw [← hcs]; iexact Hts
      isplitr; · rw [← hcs]; iapply (reached_at m K (tgt c (ds i), dk (ds i))); iexact HR
      isplitl [Htr]; · rw [← hcr]; iexact Htr
      rw [← hcr]; iapply (reached_at m K (tgt c (dr i), dk (dr i))); iexact HR
    iintro ⟨Hc, HO⟩
    iapply ih $$ [HO Hl] [Hk Hc]
    · isplitr; · iexact HR
      isplitl [HO]; · iexact HO
      iexact Hl
    · iintro ⟨Hcs, HO⟩
      iapply Hk
      isplitr [HO]
      · isplitl [Hc]; · rw [hcs, hA i]; iexact Hc
        iexact Hcs
      iexact HO

/-! ## Waits -/

/-- The payments counted on each semaphore. -/
abbrev on (k : Fin 10) : Finset Duty := Finset.univ.filter fun d => dk d = k

/-- Where a device is on its own cell after `j` waits for one payment each: some payments taken, with what they handed over; at the last, all. -/
def St (c : Dev nD) (k : Fin 10) (j : ℕ) : sProp 𝕄 :=
  if j < nk k then iprop(∃ T, ⌜T ⊆ on k⌝ ∗ atPos ER (kcell (c, k)) 0 T (j * ak k) ∗ bigSep T (pay m c))
  else iprop(atPos ER (kcell (c, k)) 1 ∅ 0 ∗ bigSep (on k) (pay m c))

theorem St_zero (c : Dev nD) (k : Fin 10) (h : 0 < nk k) : atPos ER (kcell (c, k)) 0 ∅ 0 ⊢ St (F := F) m c k 0 := by
  unfold St
  rw [if_pos h]
  iintro H
  iexists ∅
  isplitr; · ipureintro; exact Finset.empty_subset _
  isplitl [H]; · rw [Nat.zero_mul]; iexact H
  rw [bigSep_empty]; iempintro

theorem St_last (c : Dev nD) (k : Fin 10) (j : ℕ) (h : j = nk k) : St m c k j = iprop(atPos ER (kcell (c, k)) 1 ∅ 0 ∗ bigSep (on k) (pay m c)) := by
  unfold St; exact if_neg (by omega)

theorem bigSep_sub {I : Type} [DecidableEq I] {T S : Finset I} (h : T ⊆ S) (Φ : I → sProp 𝕄) :
    iprop(bigSep T Φ ∗ bigSep (S \ T) Φ) ⊢ bigSep S Φ := by
  conv_rhs => rw [← Finset.union_sdiff_of_subset h]
  rw [bigSep_union Finset.disjoint_sdiff]
  iintro H; iexact H

theorem wait_step {sp sp' : Space} {s s' : Shape} {e e' : EltTy} (c : Dev nD) (k : Fin 10) (sem : DmaSem sig) (src : Memref sig .tc sp s e) (dst : Memref sig .tc sp' s' e')
    (hs : src.view.WordExact) (hd : dst.view.WordExact) (hk : csem k = .dma sem) (hA : dst.view.dmaCredit = ak k) (j : ℕ) (hj : j < nk k)
    (O : CellTallies nD τ sig Unit) (W : Waits sig Unit) (kk : PUnit → P F) (Q : PUnit → sProp 𝕄) :
    iprop(records m K ∗ cred (tallyAt (kcell (c, k)) () (ak k)) ∗ owes (c : Thread nD τ) O W ∗ MayWait (c : Thread nD τ) (csem k) () O ∗ St m c k j)
      ⊢ iprop(((∃ W', owes (c : Thread nD τ) O W') ∗ St m c k (j + 1) -∗ wpB c (kk ⟨⟩) Q) -∗ wpB c (.op (.waitDma2 sem src dst hs hd) kk) Q) := by
  have hcell : kcell (c, k) = (((c : Thread nD τ), .dma sem) : GSem nD τ sig) := by unfold kcell; rw [hk]
  have hex : (Rd (F := F) m).expect ((c : Thread nD τ), .dma sem) 0 = nk k * ak k := by rw [← hcell]; exact expect_kcell m c k
  have hdu : (Rd (F := F) m).duties ((c : Thread nD τ), .dma sem) 0 = on k := by rw [← hcell]; exact duties_kcell m c k
  rw [show St m c k j = iprop(∃ T, ⌜T ⊆ on k⌝ ∗ atPos ER (kcell (c, k)) 0 T (j * ak k) ∗ bigSep T (pay m c)) from if_pos hj, hk]
  iintro ⟨#HR, Hc, HO, HM, ⟨%T, %hT, Hat, HT⟩⟩ Hk
  by_cases hl : j + 1 < nk k
  · iapply (Rounds.wp_wait 𝒱₀ ER (Rd m) (c : Thread nD τ) none (κ := K (c, k)) (sm := .dma sem) (k' := dst.view.dmaCredit)
      (wpE_waitDma2_eq 𝒱₀ (c : Thread nD τ) none Set.univ) (Set.mem_univ _) (cr := Finsupp.single () (ak k)) (O := O) (W := W)
      {(SemLoc.dma sem, ())} (R := 0) (m := j * ak k) (T := T)
      (by rw [hA, Util.total_single]) (image_single_subset (.dma sem) () (ak k))) $$ [Hc HO HM Hat]
    · isplitr; · rw [← hcell]; iapply (inv_at m K (c, k)); iexact HR
      isplitl [Hc]; · rw [← hcell]; iexact Hc
      isplitl [HO]; · iexact HO
      isplitl [HM]; · iexact HM
      rw [← hcell]; iexact Hat
    iintro %S ⟨%hS, HO, Hat, Hp⟩
    iapply Hk
    isplitl [HO]; · iexists _; iexact HO
    rw [show St m c k (j + 1) = iprop(∃ T, ⌜T ⊆ on k⌝ ∗ atPos ER (kcell (c, k)) 0 T ((j + 1) * ak k) ∗ bigSep T (pay m c)) from if_pos hl, hcell]
    iexists S
    isplitr; · ipureintro; rw [← hdu]; exact hS.2.1
    isplitl [Hat]; · rw [Nat.succ_mul, ← hA]; iexact Hat
    iapply (bigSep_sub hS.1 (pay m c))
    isplitl [HT]; · iexact HT
    iexact Hp
  · iapply (Rounds.wp_wait_rest_token 𝒱₀ ER (Rd m) (c : Thread nD τ) none (κ := K (c, k))
      (wpE_waitDma2_eq 𝒱₀ (c : Thread nD τ) none Set.univ) (Set.mem_univ _) () (O := O) (W := W) (R := 0) (m := j * ak k) (T := T)
      (by rw [hex, hA]; have : nk k = j + 1 := by omega
          rw [this, Nat.succ_mul])) $$ [Hc HO HM Hat]
    · isplitr; · rw [← hcell]; iapply (inv_at m K (c, k)); iexact HR
      isplitl [Hc]; · rw [← hcell, hA]; iexact Hc
      isplitl [HO]; · iexact HO
      isplitl [HM]; · iexact HM
      rw [← hcell]; iexact Hat
    iintro ⟨HO, Hat, -, Hp⟩
    iapply Hk
    isplitl [HO]; · iexists _; iexact HO
    rw [St_last m c k (j + 1) (by omega), hdu, hcell]
    isplitl [Hat]; · iexact Hat
    iapply (bigSep_sub hT (pay m c))
    isplitl [HT]; · iexact HT
    iexact Hp

/-- A loop of waits on one semaphore, each for one payment. -/
theorem waits_loop {n : ℕ} {s : Shape} {e : EltTy} (c : Dev nD) (k : Fin 10) (src dst : Fin n → Memref sig .tc .vmem s e) (sem : DmaSem sig)
    (hs : ∀ i, (src i).view.WordExact) (hd : ∀ i, (dst i).view.WordExact) (hk : csem k = .dma sem) (hA : ∀ i, (dst i).view.dmaCredit = ak k)
    (O : CellTallies nD τ sig Unit) (hM : records m K ⊢ MayWait (c : Thread nD τ) (csem k) () O)
    (kk : P F) (Q : PUnit → sProp 𝕄) (l : List (Fin n)) (j : ℕ) (hj : j + l.length ≤ nk k) :
    iprop(records m K ∗ (bigSepL l fun _ => cred (tallyAt (kcell (c, k)) () (ak k))) ∗ (∃ W, owes (c : Thread nD τ) O W) ∗ St m c k j)
      ⊢ iprop(((∃ W, owes (c : Thread nD τ) O W) ∗ St m c k (j + l.length) -∗ wpB c kk Q) -∗ wpB c (waits src dst sem hs hd l kk) Q) := by
  induction l generalizing j with
  | nil =>
    iintro ⟨-, -, HO, HS⟩ Hk
    iapply Hk
    isplitl [HO]; · iexact HO
    iexact HS
  | cons i l ih =>
    rw [bigSepL_cons']
    rw [List.length_cons] at hj
    iintro ⟨#HR, ⟨Hc, Hl⟩, ⟨%W, HO⟩, HS⟩ Hk
    unfold waits
    iapply (wait_step m K c k sem (src i) (dst i) (hs i) (hd i) hk (hA i) j (by omega) O W) $$ [Hc HO HS]
    · isplitr; · iexact HR
      isplitl [Hc]; · iexact Hc
      isplitl [HO]; · iexact HO
      isplitr; · iapply hM; iexact HR
      iexact HS
    iintro ⟨HO, HS⟩
    iapply (ih (j + 1) (by omega)) $$ [Hl HO HS] [Hk]
    · isplitr; · iexact HR
      isplitl [Hl]; · iexact Hl
      isplitl [HO]; · iexact HO
      iexact HS
    · rw [List.length_cons, show j + (l.length + 1) = j + 1 + l.length by omega]; iexact Hk

/-- The wait for all the signals. -/
theorem wait_bar (c : Dev nD) (O : CellTallies nD τ sig Unit) (W : Waits sig Unit) (hM : records m K ⊢ MayWait (c : Thread nD τ) (csem 0) () O)
    (kk : PUnit → P F) (Q : PUnit → sProp 𝕄) :
    iprop(records m K ∗ cred (tallyAt (kcell (c, 0)) () 10) ∗ owes (c : Thread nD τ) O W ∗ atPos ER (kcell (c, 0)) 0 ∅ 0)
      ⊢ iprop(((∃ W, owes (c : Thread nD τ) O W) ∗ St m c 0 10 -∗ wpB c (kk ⟨⟩) Q) -∗ wpB c (.op (.semWait barS (10#32 : BitVec 32).toInt) kk) Q) := by
  have hex : (Rd (F := F) m).expect ((c : Thread nD τ), .reg barS) 0 = 10 := expect_kcell m c 0
  have hdu : (Rd (F := F) m).duties ((c : Thread nD τ), .reg barS) 0 = on 0 := duties_kcell m c 0
  rw [St_last m c 0 10 rfl]
  iintro ⟨#HR, Hc, HO, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [hex]; decide)) $$ [Hc HO Hat]
  · isplitr; · iapply (inv_at m K (c, 0)); iexact HR
    isplitl [Hc]; · iexact Hc
    isplitl [HO]; · iexact HO
    isplitr; · iapply hM; iexact HR
    iexact Hat
  iintro ⟨HO, Hat, -, Hp⟩
  iapply Hk
  isplitl [HO]; · iexists _; iexact HO
  isplitl [Hat]; · iexact Hat
  rw [Finset.sdiff_empty, hdu]
  iexact Hp

/-- A cell whose payments have all been taken, or that has none, is closed: its counter is at zero. -/
theorem close_cell (c : Dev nD) (k : Fin 10) (R : ℕ) (hR : 1 ≤ R ∨ nk k = 0) :
    iprop(records m K ∗ atPos ER (kcell (c, k)) R ∅ 0) ⊢ (|={Set.univ}=> semVal (kcell (c, k)) 0 : sProp 𝕄) := by
  iintro ⟨#HR, Hat⟩
  iapply (Rounds.cell_close ER (Rd m) (Set.mem_univ (K (c, k))) (fun h => h) (R := R) (fun r hr => by
    rcases hR with h | h
    · exact duties_later m _ r (by omega)
    · rcases Nat.eq_zero_or_pos r with rfl | h'
      · rw [duties_kcell]; exact Finset.card_eq_zero.mp ((card_dk k).trans h)
      · exact duties_later m _ r h'))
  isplitr; · iapply (inv_at m K (c, k)); iexact HR
  iexact Hat

end Cert.Allreduce
-- ==== Proof.Hand.lean ====
/-
# Handing the places round

A device's landing places, cut out of its buffers; and how a place on any device reaches the device whose copy lands there: first along the
row, with the signals, then along the column, with the first layer's second phase.
-/
module

public import proofs.«01_k».proof.Proof.Proto
public import Idealize.ShloMosaic.Lib.Ring

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Pieces of a buffer -/

section Pieces
variable {ℓ : Loc nD τ sig} {B : Type} [Fintype B] [DecidableEq B]

theorem cut (I : B → Finset (Idx ℓ)) (hI : ∀ b b', b ≠ b' → Disjoint (I b) (I b')) (f : Buf (Elt F) ℓ) :
    (ℓ ↦{fullShare} f : sProp 𝕄) ⊢ iprop((bigSep Finset.univ fun b => ℓ ↦[I b]{fullShare} f) ∗ (ℓ ↦[Finset.univ \ Finset.univ.biUnion I]{fullShare} f)) := by
  rw [← pointsTo_biUnion Finset.univ I (fun b _ b' _ h => hI b b' h)]
  exact (pointsTo_split_subset (Finset.subset_univ _)).1

theorem join (I : B → Finset (Idx ℓ)) (hI : ∀ b b', b ≠ b' → Disjoint (I b) (I b')) :
    iprop((bigSep Finset.univ fun b => iprop(∃ f, ℓ ↦[I b]{fullShare} f)) ∗ (∃ f : Buf (Elt F) ℓ, ℓ ↦[Finset.univ \ Finset.univ.biUnion I]{fullShare} f))
      ⊢ (iprop(∃ g, ℓ ↦{fullShare} g) : sProp 𝕄) := by
  iintro ⟨H, ⟨%f, Hr⟩⟩
  ihave Hg := (Ring.pointsTo_sub_blocks_join_exists I hI (Finset.univ.biUnion I) rfl f) $$ H
  icases Hg with ⟨%g, Hg⟩
  ihave Hj := (pointsTo_join_subset (Finset.subset_univ (Finset.univ.biUnion I))) $$ [Hg Hr]
  · isplitl [Hg] <;> iassumption
  iexists _; iexact Hj

end Pieces

/-! ## Sums over the grid -/

theorem bigSep_zero_succ {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp), bigSep_map]; rfl

theorem bigSep_rev {n : ℕ} (Φ : Fin n → sProp 𝕄) : (bigSep Finset.univ fun i : Fin n => Φ i.rev) = bigSep Finset.univ Φ :=
  (bigSep_univ_equiv Fin.revPerm Φ).symm

theorem bigSep_opt {n : ℕ} (Φ : Option (Fin n) → sProp 𝕄) : bigSep Finset.univ Φ = iprop(Φ none ∗ bigSep Finset.univ fun i : Fin n => Φ (some i)) := by
  rw [show (Finset.univ : Finset (Option (Fin n))) = insert none (Finset.univ.map Function.Embedding.some) from by ext x; cases x <;> simp,
    bigSep_insert (by simp), bigSep_map]; rfl

theorem bigSep_swap {I J : Type} [Fintype I] [DecidableEq I] [Fintype J] [DecidableEq J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1),
    bigSep_univ_equiv (Equiv.prodComm J I) (fun p : I × J => Φ p.1 p.2)]
  rfl

/-- All of a device's landing places, by the device each is for: those for its column, and for each other of its row those for that one's column. -/
theorem hand_out (c : Dev nD) :
    (bigSep Finset.univ fun i : Fin 31 => free (F := F) c (slotR i))
      = iprop((bigSep Finset.univ fun b : Fin 8 => landing c (colF c b)) ∗ bigSep Finset.univ fun i : Fin 3 => bigSep Finset.univ fun b : Fin 8 => landing c (colF (rowD c i) b)) := by
  have h1 : (bigSep Finset.univ fun d : Dev nD => (landing c d : sProp 𝕄)) = bigSep Finset.univ fun i : Fin 31 => free (F := F) c (slotR i) := by
    rw [bigSep_univ_equiv (others c) (fun d : Dev nD => (landing c d : sProp 𝕄)), bigSep_opt,
      show (landing c (others c none) : sProp 𝕄) = iprop(emp) from if_pos rfl, ← bigSep_rev (fun i : Fin 31 => free (F := F) c (slotR i))]
    refine (equiv_iff.mp emp_sep).trans (bigSep_congr fun i _ => ?_)
    show landing c (rsD c i) = _
    unfold landing
    rw [if_neg (fun h => rsD_ne c i h.symm), ixR_rsD']
  rw [← h1, bigSep_univ_equiv (gridRC c) (fun d : Dev nD => (landing c d : sProp 𝕄)), bigSep_univ_prod, bigSep_zero_succ]
  show iprop((bigSep Finset.univ fun b : Fin 8 => landing c (colF (rowF c 0) b)) ∗ bigSep Finset.univ fun i : Fin 3 => bigSep Finset.univ fun b : Fin 8 => landing c (colF (rowF c i.succ) b)) = _
  rw [rowF_zero]
  simp only [rowF_succ]

/-- The places of its row for its column, its own kept and the others' received: those for itself, and those for each other of its column. -/
theorem hand_on (c : Dev nD) :
    iprop((bigSep Finset.univ fun b : Fin 8 => landing (F := F) c (colF c b)) ∗ bigSep Finset.univ fun i : Fin 3 => bigSep Finset.univ fun b : Fin 8 => landing (rowD c i) (colF c b))
      = iprop((bigSep Finset.univ fun a : Fin 4 => landing (rowF c a) c) ∗ bigSep Finset.univ fun i : Fin 7 => bigSep Finset.univ fun a : Fin 4 => landing (rowF c a) (colD c i)) := by
  have h1 := bigSep_zero_succ (F := F) (fun a : Fin 4 => bigSep Finset.univ fun b : Fin 8 => landing (rowF c a) (colF c b))
  have h2 := bigSep_zero_succ (F := F) (fun b : Fin 8 => bigSep Finset.univ fun a : Fin 4 => landing (rowF c a) (colF c b))
  simp only [rowF_zero, colF_zero, rowF_succ, colF_succ] at h1 h2
  rw [← h1, ← h2]
  exact bigSep_swap _

/-- The places for a device, from its column's, are all the places of the others where its copies land. -/
theorem hand_in (c : Dev nD) :
    iprop((bigSep Finset.univ fun a : Fin 4 => landing (F := F) (rowF c a) c) ∗ bigSep Finset.univ fun i : Fin 7 => bigSep Finset.univ fun a : Fin 4 => landing (rowF (colD c i) a) c)
      = bigSep Finset.univ fun i : Fin 31 => free (F := F) (rsD c i) (slotR i) := by
  have h1 := bigSep_zero_succ (F := F) (fun b : Fin 8 => bigSep Finset.univ fun a : Fin 4 => landing (rowF (colF c b) a) c)
  simp only [colF_zero, colF_succ] at h1
  rw [← h1, bigSep_swap]
  simp only [rowF_colF]
  have h2 := bigSep_univ_equiv (gridRC c) (fun p : Dev nD => (landing p c : sProp 𝕄))
  rw [bigSep_univ_prod] at h2
  refine Eq.trans h2.symm ?_
  rw [bigSep_univ_equiv (others c) (fun p : Dev nD => (landing p c : sProp 𝕄)), bigSep_opt, show (landing (others c none) c : sProp 𝕄) = iprop(emp) from if_pos rfl]
  refine (equiv_iff.mp emp_sep).trans (bigSep_congr fun i _ => ?_)
  show landing (rsD c i) c = _
  unfold landing
  rw [if_neg (rsD_ne c i), ixR_rsD]

end Cert.Allreduce
-- ==== Proof.Segments.lean ====
/-
# The parts of the body

What each part of the body takes and leaves, on one device.
-/
module

public import proofs.«01_k».proof.Proof.Loops
public import proofs.«01_k».proof.Proof.Hand

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 10 → ℕ)

/-! ## Loads and stores of whole buffers -/

theorem hz : (![0, 0] : Fin 2 → Nat) = fun _ => 0 := funext fun a => by fin_cases a <;> rfl

theorem rd_x (f : (cc0_stg0_0 : Ref sig .tc).ty.Contents (Elt F)) : xM.view.readAt (Elt F) r128.toLoadRect f = f := Memref.readAt_unit_zero (Elt F) cc0_stg0_0 hz _ f
theorem rd_wi0 (f : (cc0_stg1_0 : Ref sig .tc).ty.Contents (Elt F)) : wi0M.view.readAt (Elt F) rWi.toLoadRect f = f := Memref.readAt_unit_zero (Elt F) cc0_stg1_0 hz _ f
theorem rd_wo0 (f : (cc0_stg2_0 : Ref sig .tc).ty.Contents (Elt F)) : wo0M.view.readAt (Elt F) rWo.toLoadRect f = f := Memref.readAt_unit_zero (Elt F) cc0_stg2_0 hz _ f
theorem rd_wi1 (f : (cc0_stg3_0 : Ref sig .tc).ty.Contents (Elt F)) : wi1M.view.readAt (Elt F) rWi.toLoadRect f = f := Memref.readAt_unit_zero (Elt F) cc0_stg3_0 hz _ f
theorem rd_wo1 (f : (cc0_stg4_0 : Ref sig .tc).ty.Contents (Elt F)) : wo1M.view.readAt (Elt F) rWo.toLoadRect f = f := Memref.readAt_unit_zero (Elt F) cc0_stg4_0 hz _ f
theorem rd_wi2 (f : (cc0_stg5_0 : Ref sig .tc).ty.Contents (Elt F)) : wi2M.view.readAt (Elt F) rWi.toLoadRect f = f := Memref.readAt_unit_zero (Elt F) cc0_stg5_0 hz _ f
theorem rd_wo2 (f : (cc0_stg6_0 : Ref sig .tc).ty.Contents (Elt F)) : wo2M.view.readAt (Elt F) rWo.toLoadRect f = f := Memref.readAt_unit_zero (Elt F) cc0_stg6_0 hz _ f
theorem wr_sr (f w : (cc0_scratch5 : Ref sig .tc).ty.Contents (Elt F)) : (srM.access r128 : View sig .tc _ _ _).write (Elt F) f w Finset.univ = w :=
  Memref.write_access_unit_zero_univ (Elt F) cc0_scratch5 hz _ f w
theorem wr_out (f w : (cc0_stg7_0 : Ref sig .tc).ty.Contents (Elt F)) : (outM.access rOut : View sig .tc _ _ _).write (Elt F) f w Finset.univ = w :=
  Memref.write_access_unit_zero_univ (Elt F) cc0_stg7_0 hz _ f w

/-- A buffer held whole. -/
abbrev all (c : Dev nD) (b : Ref sig .tc) (f : b.ty.Contents (Elt F)) : sProp 𝕄 := ((c : Thread nD τ).loc b) ↦{fullShare} (f : Buf (Elt F) ((c : Thread nD τ).loc b))

/-! ## The products -/

theorem head0_spec (c : Dev nD) (k : FVec F S128x128 .f32 → P F) (Q : PUnit → sProp 𝕄) :
    iprop(all c cc0_stg0_0 (xA m c) ∗ all c cc0_stg1_0 (wi0A m c) ∗ all c cc0_stg2_0 (wo0A m c) ∗ free c (src1 0))
      ⊢ iprop((all c cc0_stg0_0 (xA m c) ∗ all c cc0_stg1_0 (wi0A m c) ∗ all c cc0_stg2_0 (wo0A m c)
          ∗ held c (src1 0) fullShare (fillS (snd1 m 0 c)) -∗ wpB c (k (part0 m c)) Q) -∗ wpB c (head0 k) Q) := by
  unfold free head0
  iintro ⟨H0, H1, H2, ⟨%f, Hs⟩⟩ Hk
  iapply (wp_load 𝒱₀ (c : Thread nD τ) none Set.univ (m := xM) (Finset.subset_univ _)) $$ H0; iintro H0
  rw [rd_x]
  iapply (wp_load 𝒱₀ (c : Thread nD τ) none Set.univ (m := wi0M) (Finset.subset_univ _)) $$ H1; iintro H1
  rw [rd_wi0]
  iapply (wp_load 𝒱₀ (c : Thread nD τ) none Set.univ (m := wo0M) (Finset.subset_univ _)) $$ H2; iintro H2
  rw [rd_wo0]
  iapply (wp_load 𝒱₀ (c : Thread nD τ) none Set.univ (m := s1M) (touchS1 0)) $$ Hs; iintro Hs
  iapply (wp_store 𝒱₀ (c : Thread nD τ) none Set.univ (m := s1M) (r := rS 0) (Mk := Finset.univ) (touchW1 0)) $$ Hs; iintro Hs
  iapply Hk
  isplitl [H0]; · iexact H0
  isplitl [H1]; · iexact H1
  isplitl [H2]; · iexact H2
  iapply (Entails.of_eq (pointsTo_congr (stored1 0 f (snd1 m 0 c)))); iexact Hs

/-- A layer's slots of the first phase, together, and of the second; the last layer's. -/
theorem whole1 (l : Fin 2) (c : Dev nD) (f : Buf (Elt F) (c1M.view.loc (c : Thread nD τ))) :
    (c1M.view.loc (c : Thread nD τ) ↦[Finset.univ.biUnion fun i => (slot1 l i).view.set]{fullShare} f : sProp 𝕄)
      = bigSep Finset.univ fun i => held c (slot1 l i) fullShare f :=
  Ring.pointsTo_sub_blocks (ℓ := c1M.view.loc (c : Thread nD τ)) (fun i => (slot1 l i).view.set) (fun i j h => slot1_disjoint (l, i) (l, j) fun e => h (Prod.mk.inj e).2) _ rfl f
theorem whole2 (l : Fin 2) (c : Dev nD) (f : Buf (Elt F) (c2M.view.loc (c : Thread nD τ))) :
    (c2M.view.loc (c : Thread nD τ) ↦[Finset.univ.biUnion fun i => (slot2 l i).view.set]{fullShare} f : sProp 𝕄)
      = bigSep Finset.univ fun i => held c (slot2 l i) fullShare f :=
  Ring.pointsTo_sub_blocks (ℓ := c2M.view.loc (c : Thread nD τ)) (fun i => (slot2 l i).view.set) (fun i j h => slot2_disjoint (l, i) (l, j) fun e => h (Prod.mk.inj e).2) _ rfl f
theorem wholeR (c : Dev nD) (f : Buf (Elt F) (crM.view.loc (c : Thread nD τ))) :
    (crM.view.loc (c : Thread nD τ) ↦[Finset.univ.biUnion fun i => (slotR i).view.set]{fullShare} f : sProp 𝕄)
      = bigSep Finset.univ fun i => held c (slotR i) fullShare f :=
  Ring.pointsTo_sub_blocks (ℓ := crM.view.loc (c : Thread nD τ)) (fun i => (slotR i).view.set) slotR_disjoint _ rfl f

theorem mid_spec (c : Dev nD) (l : Fin 2) (g : Fin 3 → FVec F S1x128x128 .bf16) (pay : Vec F S1x3x128x128 .bf16 → FVec F S1x128x128 .bf16)
    (k : Vec F S1x3x128x128 .bf16 → P F) (Q : PUnit → sProp 𝕄) :
    iprop((bigSep Finset.univ fun i => held c (slot1 l i) fullShare (fill1 g)) ∗ free c (src2 l))
      ⊢ iprop(((bigSep Finset.univ fun i => held c (slot1 l i) fullShare (fill1 g)) ∗ held c (src2 l) fullShare (fillS (pay (gath1 g)))
          -∗ wpB c (k (gath1 g)) Q) -∗ wpB c (mid l pay k) Q) := by
  rw [← whole1]
  unfold free mid
  iintro ⟨H0, ⟨%f, Hs⟩⟩ Hk
  iapply (wp_load 𝒱₀ (c : Thread nD τ) none Set.univ (m := c1M) (touch1 l)) $$ H0; iintro H0
  rw [read1]
  iapply (wp_load 𝒱₀ (c : Thread nD τ) none Set.univ (m := s2M) (touchS2 l)) $$ Hs; iintro Hs
  iapply (wp_store 𝒱₀ (c : Thread nD τ) none Set.univ (m := s2M) (r := rS l) (Mk := Finset.univ) (touchW2 l)) $$ Hs; iintro Hs
  iapply Hk
  isplitl [H0]; · iexact H0
  iapply (Entails.of_eq (pointsTo_congr (stored2 l f (pay (gath1 g))))); iexact Hs

theorem head1_spec (c : Dev nD) (k : FVec F S128x128 .f32 → P F) (Q : PUnit → sProp 𝕄) :
    iprop((bigSep Finset.univ fun i => held c (slot2 0 i) fullShare (fill2 fun i => snd2 m 0 (colD c i.rev)))
        ∗ all c cc0_stg3_0 (wi1A m c) ∗ all c cc0_stg4_0 (wo1A m c) ∗ free c (src1 1))
      ⊢ iprop(((bigSep Finset.univ fun i => held c (slot2 0 i) fullShare (fill2 fun i => snd2 m 0 (colD c i.rev)))
          ∗ all c cc0_stg3_0 (wi1A m c) ∗ all c cc0_stg4_0 (wo1A m c)
          ∗ held c (src1 1) fullShare (fillS (snd1 m 1 c)) -∗ wpB c (k (part1 m c)) Q) -∗ wpB c (head1 (row0 m c) k) Q) := by
  rw [← whole2]
  unfold free head1
  iintro ⟨H0, H1, H2, ⟨%f, Hs⟩⟩ Hk
  iapply (wp_load 𝒱₀ (c : Thread nD τ) none Set.univ (m := c2M) (touch2 0)) $$ H0; iintro H0
  rw [read2]
  iapply (wp_load 𝒱₀ (c : Thread nD τ) none Set.univ (m := wi1M) (Finset.subset_univ _)) $$ H1; iintro H1
  rw [rd_wi1]
  iapply (wp_load 𝒱₀ (c : Thread nD τ) none Set.univ (m := wo1M) (Finset.subset_univ _)) $$ H2; iintro H2
  rw [rd_wo1]
  iapply (wp_load 𝒱₀ (c : Thread nD τ) none Set.univ (m := s1M) (touchS1 1)) $$ Hs; iintro Hs
  iapply (wp_store 𝒱₀ (c : Thread nD τ) none Set.univ (m := s1M) (r := rS 1) (Mk := Finset.univ) (touchW1 1)) $$ Hs; iintro Hs
  iapply Hk
  isplitl [H0]; · iexact H0
  isplitl [H1]; · iexact H1
  isplitl [H2]; · iexact H2
  iapply (Entails.of_eq (pointsTo_congr (stored1 1 f (snd1 m 1 c)))); iexact Hs

theorem head2_spec (c : Dev nD) (k : P F) (Q : PUnit → sProp 𝕄) :
    iprop((bigSep Finset.univ fun i => held c (slot2 1 i) fullShare (fill2 fun i => snd2 m 1 (colD c i.rev)))
        ∗ all c cc0_stg5_0 (wi2A m c) ∗ all c cc0_stg6_0 (wo2A m c) ∗ (∃ f, all c cc0_scratch5 f))
      ⊢ iprop(((bigSep Finset.univ fun i => held c (slot2 1 i) fullShare (fill2 fun i => snd2 m 1 (colD c i.rev)))
          ∗ all c cc0_stg5_0 (wi2A m c) ∗ all c cc0_stg6_0 (wo2A m c)
          ∗ all c cc0_scratch5 (part2 m c) -∗ wpB c k Q) -∗ wpB c (head2 (row1 m c) k) Q) := by
  rw [← whole2]
  unfold head2
  iintro ⟨H0, H1, H2, ⟨%f, Hs⟩⟩ Hk
  iapply (wp_load 𝒱₀ (c : Thread nD τ) none Set.univ (m := c2M) (touch2 1)) $$ H0; iintro H0
  rw [read2]
  iapply (wp_load 𝒱₀ (c : Thread nD τ) none Set.univ (m := wi2M) (Finset.subset_univ _)) $$ H1; iintro H1
  rw [rd_wi2]
  iapply (wp_load 𝒱₀ (c : Thread nD τ) none Set.univ (m := wo2M) (Finset.subset_univ _)) $$ H2; iintro H2
  rw [rd_wo2]
  iapply (wp_load 𝒱₀ (c : Thread nD τ) none Set.univ (m := srM) (Finset.subset_univ _)) $$ Hs; iintro Hs
  iapply (wp_store 𝒱₀ (c : Thread nD τ) none Set.univ (m := srM) (r := r128) (Mk := Finset.univ) (Finset.subset_univ _)) $$ Hs; iintro Hs
  rw [wr_sr]
  iapply Hk
  isplitl [H0]; · iexact H0
  isplitl [H1]; · iexact H1
  isplitl [H2]; · iexact H2
  iexact Hs

/-- The elements of the sending buffer that the device keeps. -/
abbrev rest5 (c : Dev nD) : Finset (Idx ((c : Thread nD τ).loc cc0_scratch5)) := Finset.univ \ Finset.univ.biUnion fun i => (srcR c i).view.set

/-- The result from the device's own rows and the landed ones. -/
theorem out_spec (c : Dev nD) (k : P F) (Q : PUnit → sProp 𝕄) :
    iprop(((c : Thread nD τ).loc cc0_scratch5 ↦[rest5 c]{fullShare} (part2 m c : Buf (Elt F) ((c : Thread nD τ).loc cc0_scratch5)))
        ∗ (bigSep Finset.univ fun i => held c (slotR i) fullShare (fillR (part2 m) c)) ∗ (∃ f, all c cc0_stg7_0 f))
      ⊢ iprop((((c : Thread nD τ).loc cc0_scratch5 ↦[rest5 c]{fullShare} (part2 m c : Buf (Elt F) ((c : Thread nD τ).loc cc0_scratch5)))
          ∗ (bigSep Finset.univ fun i => held c (slotR i) fullShare (fillR (part2 m) c)) ∗ all c cc0_stg7_0 (outA m c) -∗ wpB c k Q)
        -∗ wpB c (.op (.load srM (rOwn c).toLoadRect (View.loadsAt_vmem h_S4x128)) fun v1486 =>
          .op (.load crM rCr.toLoadRect (View.loadsAt_vmem h_S31x4x128)) fun v1487 =>
          .op (.load outM rOut.toLoadRect (View.loadsAt_vmem h_S4x128)) fun v1490 =>
          .op (.store outM rOut (k0_pay13 v1486 v1487) Finset.univ (View.stores_vmem_bits_univ h_S4x128 rfl) (.inl rfl)) fun _ => k) Q) := by
  rw [← wholeR]
  iintro ⟨H0, H1, ⟨%f, H2⟩⟩ Hk
  iapply (wp_load 𝒱₀ (c : Thread nD τ) none Set.univ (m := srM) (touchOwn c)) $$ H0; iintro H0
  rw [readOwn]
  iapply (wp_load 𝒱₀ (c : Thread nD τ) none Set.univ (m := crM) touchR) $$ H1; iintro H1
  rw [readR]
  iapply (wp_load 𝒱₀ (c : Thread nD τ) none Set.univ (m := outM) (Finset.subset_univ _)) $$ H2; iintro H2
  iapply (wp_store 𝒱₀ (c : Thread nD τ) none Set.univ (m := outM) (r := rOut) (Mk := Finset.univ) (Finset.subset_univ _)) $$ H2; iintro H2
  rw [wr_out]
  iapply Hk
  isplitl [H0]; · iexact H0
  isplitl [H1]; · iexact H1
  iexact H2

end Cert.Allreduce
-- ==== Proof.Phases.lean ====
/-
# The phases of signals and copies

Each stretch of the body that talks: what it takes and what it leaves.
-/
module

public import proofs.«01_k».proof.Proof.Loops
public import proofs.«01_k».proof.Proof.Hand

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 10 → ℕ)

theorem univ3 (Φ : Fin 3 → sProp 𝕄) : bigSep Finset.univ Φ = bigSepL l3 Φ := bigSep_univ_eq_bigSepL l3 (by decide) (by decide) Φ
theorem univ7 (Φ : Fin 7 → sProp 𝕄) : bigSep Finset.univ Φ = bigSepL l7 Φ := bigSep_univ_eq_bigSepL l7 (by decide) (by decide) Φ
theorem univ31 (Φ : Fin 31 → sProp 𝕄) : bigSep Finset.univ Φ = bigSepL l31 Φ := bigSep_univ_eq_bigSepL l31 (by decide) (by decide) Φ

/-! ## The payments on each semaphore, listed -/

theorem on_bar (Φ : Duty → sProp 𝕄) : bigSep (on 0) Φ
    = iprop((bigSep Finset.univ fun i => Φ (.barR i)) ∗ bigSep Finset.univ fun i => Φ (.barC i)) := by
  rw [bigSep_eq_bigSepL_of_eq (l3.map .barR ++ l7.map .barC) (by decide +kernel) (by decide +kernel), bigSepL_append, bigSepL_map, bigSepL_map, univ3, univ7]
theorem on_send (Φ : Duty → sProp 𝕄) : bigSep (on 1) Φ
    = iprop((bigSep Finset.univ fun i => Φ (.s1 0 i)) ∗ (bigSep Finset.univ fun i => Φ (.s2 0 i))
      ∗ (bigSep Finset.univ fun i => Φ (.s1 1 i)) ∗ (bigSep Finset.univ fun i => Φ (.s2 1 i))) := by
  rw [bigSep_eq_bigSepL_of_eq (l3.map (.s1 0) ++ (l7.map (.s2 0) ++ (l3.map (.s1 1) ++ l7.map (.s2 1)))) (by decide +kernel) (by decide +kernel),
    bigSepL_append, bigSepL_append, bigSepL_append, bigSepL_map, bigSepL_map, bigSepL_map, bigSepL_map, univ3, univ7, univ3, univ7]
theorem on_r1 (l : Fin 2) (Φ : Duty → sProp 𝕄) : bigSep (on (dk (.r1 l 0))) Φ = bigSep Finset.univ fun i => Φ (.r1 l i) := by
  rw [bigSep_eq_bigSepL_of_eq (l3.map (.r1 l)) (by revert l; decide +kernel) (by revert l; decide +kernel), bigSepL_map, univ3]
theorem on_r2 (l : Fin 2) (Φ : Duty → sProp 𝕄) : bigSep (on (dk (.r2 l 0))) Φ = bigSep Finset.univ fun i => Φ (.r2 l i) := by
  rw [bigSep_eq_bigSepL_of_eq (l7.map (.r2 l)) (by revert l; decide +kernel) (by revert l; decide +kernel), bigSepL_map, univ7]
theorem on_rs (Φ : Duty → sProp 𝕄) : bigSep (on 8) Φ = bigSep Finset.univ fun i => Φ (.rs i) := by
  rw [bigSep_eq_bigSepL_of_eq (l31.map .rs) (by decide +kernel) (by decide +kernel), bigSepL_map, univ31]
theorem on_sr (Φ : Duty → sProp 𝕄) : bigSep (on 9) Φ = bigSep Finset.univ fun i => Φ (.sr i) := by
  rw [bigSep_eq_bigSepL_of_eq (l31.map .sr) (by decide +kernel) (by decide +kernel), bigSepL_map, univ31]

/-- What a device may collect on its own cell for one payment of a duty. -/
abbrev crd (c : Dev nD) (d : Duty) : sProp 𝕄 := cred (tallyAt (kcell (c, dk d)) () (ak (dk d)))

/-- The payments still to be made, from each phase on. -/
abbrev o7 : List Duty := l31.map .rs ++ []
abbrev o6 : List Duty := l7.map (.r2 1) ++ o7
abbrev o5 : List Duty := l3.map (.r1 1) ++ o6
abbrev o4 : List Duty := l7.map (.r2 0) ++ o5
abbrev o3 : List Duty := l3.map (.r1 0) ++ o4

/-! ## The signals -/

/-- The signals' duties, by the number of the signal. -/
def duB : Fin 10 → Duty := Fin.addCases (m := 3) (n := 7) .barR .barC
theorem duB_row (i : Fin 3) : duB (i.castAdd 7) = .barR i := Fin.addCases_left i
theorem duB_col (i : Fin 7) : duB (i.natAdd 3) = .barC i := Fin.addCases_right i

theorem pay_barR (c : Dev nD) (i : Fin 3) : pay m (rowD c i) (.barR i)
    = iprop(free c (slot1 0 i.rev) ∗ free c (slot1 1 i.rev) ∗ bigSep Finset.univ fun b : Fin 8 => landing c (colF (rowD c i) b)) := by
  show iprop(free (rowD (rowD c i) i.rev) (slot1 0 i.rev) ∗ free (rowD (rowD c i) i.rev) (slot1 1 i.rev)
      ∗ bigSep Finset.univ fun b : Fin 8 => landing (rowD (rowD c i) i.rev) (colF (rowD c i) b)) = _
  rw [rowD_rev]
theorem pay_barC (c : Dev nD) (i : Fin 7) : pay m (colD c i) (.barC i) = iprop(free c (slot2 0 i.rev) ∗ free c (slot2 1 i.rev)) := by
  show iprop(free (colD (colD c i) i.rev) (slot2 0 i.rev) ∗ free (colD (colD c i) i.rev) (slot2 1 i.rev)) = _
  rw [colD_rev]

/-- What the signals hand over. -/
theorem give_bar (c : Dev nD) :
    iprop((bigSep Finset.univ fun i => free c (slot1 0 i)) ∗ (bigSep Finset.univ fun i => free c (slot1 1 i))
        ∗ (bigSep Finset.univ fun i => free c (slot2 0 i)) ∗ (bigSep Finset.univ fun i => free c (slot2 1 i))
        ∗ bigSep Finset.univ fun i : Fin 3 => bigSep Finset.univ fun b : Fin 8 => landing c (colF (rowD c i) b))
      ⊢ iprop((bigSep Finset.univ fun i => pay m (rowD c i) (.barR i)) ∗ bigSep Finset.univ fun i => pay m (colD c i) (.barC i)) := by
  simp only [pay_barR, pay_barC, bigSep_sep']
  rw [bigSep_rev (fun i => free (F := F) c (slot1 0 i)), bigSep_rev (fun i => free (F := F) c (slot1 1 i)),
    bigSep_rev (fun i => free (F := F) c (slot2 0 i)), bigSep_rev (fun i => free (F := F) c (slot2 1 i))]
  iintro ⟨H1, H2, H3, H4, H5⟩
  isplitl [H1 H2 H5]
  · isplitl [H1]; · iexact H1
    isplitl [H2]; · iexact H2
    iexact H5
  · isplitl [H3]; · iexact H3
    iexact H4

/-- What the wait for the signals brings. -/
theorem take_bar (c : Dev nD) : bigSep (on 0) (pay m c)
    ⊢ iprop((bigSep Finset.univ fun i => free (rowD c i) (slot1 0 i)) ∗ (bigSep Finset.univ fun i => free (rowD c i) (slot1 1 i))
        ∗ (bigSep Finset.univ fun i => free (colD c i) (slot2 0 i)) ∗ (bigSep Finset.univ fun i => free (colD c i) (slot2 1 i))
        ∗ bigSep Finset.univ fun i : Fin 3 => bigSep Finset.univ fun b : Fin 8 => landing (rowD c i) (colF c b)) := by
  rw [on_bar]
  simp only [pay, bigSep_sep']
  iintro ⟨⟨H1, H2, H5⟩, H3, H4⟩
  rw [← bigSep_rev (fun i => free (F := F) (rowD c i) (slot1 0 i)), ← bigSep_rev (fun i => free (F := F) (rowD c i) (slot1 1 i)),
    ← bigSep_rev (fun i => free (F := F) (colD c i) (slot2 0 i)), ← bigSep_rev (fun i => free (F := F) (colD c i) (slot2 1 i)),
    ← bigSep_rev (fun i : Fin 3 => bigSep Finset.univ fun b : Fin 8 => landing (F := F) (rowD c i) (colF c b))]
  isplitl [H1]; · iexact H1
  isplitl [H2]; · iexact H2
  isplitl [H3]; · iexact H3
  isplitl [H4]; · iexact H4
  iexact H5

theorem signals_spec (c : Dev nD) (W : Waits sig Unit) (k : P F) (Q : PUnit → sProp 𝕄) :
    iprop(records m K ∗ owes (c : Thread nD τ) (owedL c owed) W
        ∗ (bigSep Finset.univ fun i => tok c (.barR i)) ∗ (bigSep Finset.univ fun i => tok c (.barC i))
        ∗ (bigSep Finset.univ fun i => free c (slot1 0 i)) ∗ (bigSep Finset.univ fun i => free c (slot1 1 i))
        ∗ (bigSep Finset.univ fun i => free c (slot2 0 i)) ∗ (bigSep Finset.univ fun i => free c (slot2 1 i))
        ∗ bigSep Finset.univ fun i : Fin 3 => bigSep Finset.univ fun b : Fin 8 => landing c (colF (rowD c i) b))
      ⊢ iprop((owes (c : Thread nD τ) (owedL c o3) W -∗ wpB c k Q) -∗ wpB c (signals (devB c) l10 k) Q) := by
  iintro ⟨#HR, HO, Ht1, Ht2, Hf⟩ Hk
  ihave Hp := (give_bar m c) $$ Hf
  icases Hp with ⟨Hp1, Hp2⟩
  have hl : l10 = l3.map (Fin.castAdd 7) ++ l7.map (Fin.natAdd 3) := by decide
  iapply (signals_loop m K c (devB c) duB (fun i => by
    refine Fin.addCases (m := 3) (n := 7) (fun i => ?_) (fun i => ?_) i
    · rw [duB_row]; exact devB_row c i
    · rw [duB_col]; exact devB_col c i) (by decide) o3 W k Q l10) $$ [HO Ht1 Ht2 Hp1 Hp2] [Hk]
  · isplitr; · iexact HR
    isplitl [HO]; · iexact HO
    rw [hl, bigSepL_append, bigSepL_map, bigSepL_map]
    simp only [duB_row, duB_col, ← univ3, ← univ7]
    rw [bigSep_sep', bigSep_sep']
    isplitl [Ht1 Hp1]
    · isplitl [Ht1]; · iexact Ht1
      iexact Hp1
    · isplitl [Ht2]; · iexact Ht2
      iexact Hp2
  · iexact Hk

/-! ## A row's phase and a column's -/

theorem credit_slot1 (l : Fin 2) (i : Fin 3) : (slot1 l i).view.dmaCredit = N := rfl
theorem credit_slot2 (l : Fin 2) (i : Fin 7) : (slot2 l i).view.dmaCredit = N := rfl
theorem credit_src1 (l : Fin 2) : (src1 l).view.dmaCredit = N := rfl
theorem credit_src2 (l : Fin 2) : (src2 l).view.dmaCredit = N := rfl
theorem credit_slotR (i : Fin 31) : (slotR i).view.dmaCredit = M := rfl
theorem credit_srcR (c : Dev nD) (i : Fin 31) : (srcR c i).view.dmaCredit = M := rfl
theorem ak_r1 (l : Fin 2) (i : Fin 3) : ak (dk (.r1 l i)) = N := by fin_cases l <;> rfl
theorem ak_r2 (l : Fin 2) (i : Fin 7) : ak (dk (.r2 l i)) = N := by fin_cases l <;> rfl

theorem nk_r1 (l : Fin 2) : nk (dk (.r1 l 0)) = 3 := by revert l; decide
theorem nk_r2 (l : Fin 2) : nk (dk (.r2 l 0)) = 7 := by revert l; decide

theorem may_wait (c : Dev nD) (k : Fin 10) (rest : List Duty) (hr : ∀ d ∈ rest, lk k < lk (dk d)) :
    records m K ⊢ MayWait (c : Thread nD τ) (csem k) () (owedL c rest) := by
  have h := mayWait (F := F) c (csem k) rest (lk k) (le_of_eq (lv_kcell c k ())) hr
  unfold records
  iintro ⟨-, -, H⟩
  iapply h; iexact H

theorem row_spec (c : Dev nD) (l : Fin 2) (rest : List Duty) (hr : ∀ d ∈ rest, lk (dk (.r1 l 0)) < lk (dk d)) (k : P F) (Q : PUnit → sProp 𝕄) :
    iprop(records m K ∗ (∃ W, owes (c : Thread nD τ) (owedL c (l3.map (.r1 l) ++ rest)) W)
        ∗ held c (src1 l) fullShare (fillS (snd1 m l c)) ∗ (bigSep Finset.univ fun i => free (rowD c i) (slot1 l i))
        ∗ (bigSep Finset.univ fun i => tok c (.s1 l i)) ∗ (bigSep Finset.univ fun i => tok c (.r1 l i))
        ∗ (bigSep Finset.univ fun i => crd c (.r1 l i)) ∗ atPos ER (kcell (c, dk (.r1 l 0))) 0 ∅ 0)
      ⊢ iprop(((∃ W, owes (c : Thread nD τ) (owedL c rest) W)
          ∗ held c (src1 l) (Transfers.shareDrop fullShare 3) (fillS (snd1 m l c)) ∗ (bigSep Finset.univ fun i => crd c (.s1 l i))
          ∗ atPos ER (kcell (c, dk (.r1 l 0))) 1 ∅ 0
          ∗ (bigSep Finset.univ fun i => held c (slot1 l i) fullShare (fill1 fun i => snd1 m l (rowD c i.rev))) -∗ wpB c k Q)
        -∗ wpB c (row c l k) Q) := by
  iintro ⟨#HR, ⟨%W, HO⟩, Hs, Hd, Hts, Htr, Hc, Hat⟩ Hk
  ihave Hs := (Transfers.pointsTo_toks_split fullShare 3) $$ Hs
  icases Hs with ⟨Hdrop, Hs⟩
  unfold row
  iapply (sends_loop m K c (fun _ => src1 l) (slot1 l) (dev1 c l) sendS (r1S l) (fun _ => exact_src1 l) (exact_slot1 l) (.s1 l) (.r1 l)
    (fun i => dev1_eq c l i) (fun _ => rfl) (fun _ => rfl) (csem_r1 l) (fun i => (credit_slot1 l i).trans (ak_r1 l i).symm) (fun i => (ak_r1 l i).symm)
    (fun i => Transfers.shareTok fullShare 3 i) (fun _ => fillS (snd1 m l c)) (fun _ => iprop(emp)) (fun i => Entails.of_eq rfl)
    (fun i fd => by
      show iprop(held (rowD c i) (slot1 l i) fullShare _ ∗ emp) ⊢ held (rowD c i) (slot1 l i) fullShare (fill1 fun j => snd1 m l (rowD (rowD c i) j.rev))
      iintro ⟨H, -⟩
      iapply (Entails.of_eq (pointsTo_congr (land1 l i (fun j => snd1 m l (rowD (rowD c i) j.rev)) (snd1 m l c) (by rw [rowD_rev]) fd))); iexact H)
    rest W _ Q l3) $$ [HO Hs Hd Hts Htr] [Hk Hc Hat Hdrop]
  · isplitr; · iexact HR
    isplitl [HO]; · iexact HO
    rw [← univ3, bigSep_sep', bigSep_sep', bigSep_sep', bigSep_sep']
    isplitl [Hs]; · iexact Hs
    isplitl [Hd]; · iexact Hd
    isplitr; · iapply (Entails.of_eq (bigSep_emp_const _).symm); iempintro
    isplitl [Hts]; · iexact Hts
    iexact Htr
  iintro ⟨Hcs, HO⟩
  iapply (waits_loop m K c (dk (.r1 l 0)) (fun _ => src1 l) (slot1 l) (r1S l) (fun _ => exact_src1 l) (exact_slot1 l) (csem_r1 l 0)
    (fun i => (credit_slot1 l i).trans (ak_r1 l 0).symm) (owedL c rest) (may_wait m K c _ rest hr) k Q l3 0 (le_of_eq (nk_r1 l).symm)) $$ [HO Hc Hat] [Hk Hcs Hdrop]
  · isplitr; · iexact HR
    isplitl [Hc]; · rw [← univ3]; iexact Hc
    isplitl [HO]; · iexists W; iexact HO
    iapply (St_zero m c _ (by rw [nk_r1]; decide)); iexact Hat
  rw [St_last m c _ (0 + l3.length) (nk_r1 l).symm, on_r1]
  iintro ⟨HO, Hat, Hp⟩
  iapply Hk
  isplitl [HO]; · iexact HO
  isplitl [Hdrop]; · iexact Hdrop
  isplitl [Hcs]; · rw [univ3]; iexact Hcs
  isplitl [Hat]; · iexact Hat
  iexact Hp

/-- The places of the last layer that a landing of layer 0's second phase hands on. -/
abbrev ext (l : Fin 2) (p d : Dev nD) : sProp 𝕄 := if l = 0 then bigSep Finset.univ fun a : Fin 4 => landing (rowF p a) d else iprop(emp)

theorem pay_r2 (l : Fin 2) (c : Dev nD) (i : Fin 7) : pay m c (.r2 l i)
    = iprop(held c (slot2 l i) fullShare (fill2 fun i => snd2 m l (colD c i.rev)) ∗ ext l (colD c i.rev) c) := rfl

theorem col_spec (c : Dev nD) (l : Fin 2) (rest : List Duty) (hr : ∀ d ∈ rest, lk (dk (.r2 l 0)) < lk (dk d)) (k : P F) (Q : PUnit → sProp 𝕄) :
    iprop(records m K ∗ (∃ W, owes (c : Thread nD τ) (owedL c (l7.map (.r2 l) ++ rest)) W)
        ∗ held c (src2 l) fullShare (fillS (snd2 m l c)) ∗ (bigSep Finset.univ fun i => free (colD c i) (slot2 l i))
        ∗ (bigSep Finset.univ fun i => ext l c (colD c i))
        ∗ (bigSep Finset.univ fun i => tok c (.s2 l i)) ∗ (bigSep Finset.univ fun i => tok c (.r2 l i))
        ∗ (bigSep Finset.univ fun i => crd c (.r2 l i)) ∗ atPos ER (kcell (c, dk (.r2 l 0))) 0 ∅ 0)
      ⊢ iprop(((∃ W, owes (c : Thread nD τ) (owedL c rest) W)
          ∗ held c (src2 l) (Transfers.shareDrop fullShare 7) (fillS (snd2 m l c)) ∗ (bigSep Finset.univ fun i => crd c (.s2 l i))
          ∗ atPos ER (kcell (c, dk (.r2 l 0))) 1 ∅ 0
          ∗ (bigSep Finset.univ fun i => held c (slot2 l i) fullShare (fill2 fun i => snd2 m l (colD c i.rev)))
          ∗ (bigSep Finset.univ fun i => ext l (colD c i) c) -∗ wpB c k Q)
        -∗ wpB c (col c l k) Q) := by
  iintro ⟨#HR, ⟨%W, HO⟩, Hs, Hd, He, Hts, Htr, Hc, Hat⟩ Hk
  ihave Hs := (Transfers.pointsTo_toks_split fullShare 7) $$ Hs
  icases Hs with ⟨Hdrop, Hs⟩
  unfold col
  iapply (sends_loop m K c (fun _ => src2 l) (slot2 l) (dev2 c l) sendS (r2S l) (fun _ => exact_src2 l) (exact_slot2 l) (.s2 l) (.r2 l)
    (fun i => dev2_eq c l i) (fun _ => rfl) (fun _ => rfl) (csem_r2 l) (fun i => (credit_slot2 l i).trans (ak_r2 l i).symm) (fun i => (ak_r2 l i).symm)
    (fun i => Transfers.shareTok fullShare 7 i) (fun _ => fillS (snd2 m l c)) (fun i => ext l c (colD c i)) (fun i => Entails.of_eq rfl)
    (fun i fd => by
      show iprop(held (colD c i) (slot2 l i) fullShare _ ∗ ext l c (colD c i))
        ⊢ iprop(held (colD c i) (slot2 l i) fullShare (fill2 fun j => snd2 m l (colD (colD c i) j.rev)) ∗ ext l (colD (colD c i) i.rev) (colD c i))
      rw [colD_rev]
      iintro ⟨H, He⟩
      isplitl [H]
      · iapply (Entails.of_eq (pointsTo_congr (land2 l i (fun j => snd2 m l (colD (colD c i) j.rev)) (snd2 m l c) (by rw [colD_rev]) fd))); iexact H
      · iexact He)
    rest W _ Q l7) $$ [HO Hs Hd He Hts Htr] [Hk Hc Hat Hdrop]
  · isplitr; · iexact HR
    isplitl [HO]; · iexact HO
    rw [← univ7, bigSep_sep', bigSep_sep', bigSep_sep', bigSep_sep']
    isplitl [Hs]; · iexact Hs
    isplitl [Hd]; · iexact Hd
    isplitl [He]; · iexact He
    isplitl [Hts]; · iexact Hts
    iexact Htr
  iintro ⟨Hcs, HO⟩
  iapply (waits_loop m K c (dk (.r2 l 0)) (fun _ => src2 l) (slot2 l) (r2S l) (fun _ => exact_src2 l) (exact_slot2 l) (csem_r2 l 0)
    (fun i => (credit_slot2 l i).trans (ak_r2 l 0).symm) (owedL c rest) (may_wait m K c _ rest hr) k Q l7 0 (le_of_eq (nk_r2 l).symm)) $$ [HO Hc Hat] [Hk Hcs Hdrop]
  · isplitr; · iexact HR
    isplitl [Hc]; · rw [← univ7]; iexact Hc
    isplitl [HO]; · iexists W; iexact HO
    iapply (St_zero m c _ (by rw [nk_r2]; decide)); iexact Hat
  rw [St_last m c _ (0 + l7.length) (nk_r2 l).symm, on_r2]
  simp only [pay_r2]
  rw [bigSep_sep', bigSep_rev (fun i => ext (F := F) l (colD c i) c)]
  iintro ⟨HO, Hat, Hp, He⟩
  iapply Hk
  isplitl [HO]; · iexact HO
  isplitl [Hdrop]; · iexact Hdrop
  isplitl [Hcs]; · rw [univ7]; iexact Hcs
  isplitl [Hat]; · iexact Hat
  isplitl [Hp]; · iexact Hp
  iexact He

/-! ## The reduce-scatter's copies -/

theorem scatter_spec (c : Dev nD) (k : P F) (Q : PUnit → sProp 𝕄) :
    iprop(records m K ∗ (∃ W, owes (c : Thread nD τ) (owedL c o7) W)
        ∗ (bigSep Finset.univ fun i => held c (srcR c i) fullShare (part2 m c)) ∗ (bigSep Finset.univ fun i => free (rsD c i) (slotR i))
        ∗ (bigSep Finset.univ fun i => tok c (.sr i)) ∗ (bigSep Finset.univ fun i => tok c (.rs i))
        ∗ (bigSep Finset.univ fun i => crd c (.rs i)) ∗ atPos ER (kcell (c, 8)) 0 ∅ 0)
      ⊢ iprop(((∃ W, owes (c : Thread nD τ) (owedL c []) W)
          ∗ (bigSep Finset.univ fun i => crd c (.sr i)) ∗ atPos ER (kcell (c, 8)) 1 ∅ 0
          ∗ (bigSep Finset.univ fun i => held c (slotR i) fullShare (fillR (part2 m) c)) -∗ wpB c k Q)
        -∗ wpB c (sends (srcR c) slotR (devR c) srS rrS (exact_srcR c) exact_slotR l31 <|
            waits (srcR c) slotR rrS (exact_srcR c) exact_slotR l31 k) Q) := by
  iintro ⟨#HR, ⟨%W, HO⟩, Hs, Hd, Hts, Htr, Hc, Hat⟩ Hk
  iapply (sends_loop m K c (srcR c) slotR (devR c) srS rrS (exact_srcR c) exact_slotR .sr .rs
    (fun i => devR_eq c i) (fun _ => rfl) (fun _ => csem_sr) (fun _ => csem_rr) (fun i => credit_slotR i) (fun i => rfl)
    (fun i => fullShare) (fun _ => part2 m c) (fun _ => iprop(emp)) (fun i => Entails.of_eq rfl)
    (fun i fd => by
      show iprop(held (rsD c i) (slotR i) fullShare _ ∗ emp) ⊢ held (rsD c i) (slotR i) fullShare (fillR (part2 m) (rsD c i))
      iintro ⟨H, -⟩
      iapply (Entails.of_eq (pointsTo_congr (landR c i (part2 m) fd))); iexact H)
    [] W _ Q l31) $$ [HO Hs Hd Hts Htr] [Hk Hc Hat]
  · isplitr; · iexact HR
    isplitl [HO]; · iexact HO
    rw [← univ31, bigSep_sep', bigSep_sep', bigSep_sep', bigSep_sep']
    isplitl [Hs]; · iexact Hs
    isplitl [Hd]; · iexact Hd
    isplitr; · iapply (Entails.of_eq (bigSep_emp_const _).symm); iempintro
    isplitl [Hts]; · iexact Hts
    iexact Htr
  iintro ⟨Hcs, HO⟩
  iapply (waits_loop m K c 8 (srcR c) slotR rrS (exact_srcR c) exact_slotR csem_rr
    (fun i => credit_slotR i) (owedL c []) (may_wait m K c _ [] (fun d hd => nomatch hd)) k Q l31 0 (by decide)) $$ [HO Hc Hat] [Hk Hcs]
  · isplitr; · iexact HR
    isplitl [Hc]; · rw [← univ31]; iexact Hc
    isplitl [HO]; · iexists W; iexact HO
    iapply (St_zero m c _ (by decide)); iexact Hat
  rw [St_last m c 8 (0 + l31.length) rfl, on_rs]
  iintro ⟨HO, Hat, Hp⟩
  iapply Hk
  isplitl [HO]; · iexact HO
  isplitl [Hcs]; · rw [univ31]; iexact Hcs
  isplitl [Hat]; · iexact Hat
  iexact Hp

/-! ## The waits for the device's own copies -/

theorem drain_spec (c : Dev nD) (k : P F) (Q : PUnit → sProp 𝕄) :
    iprop(records m K ∗ (∃ W, owes (c : Thread nD τ) (owedL c []) W)
        ∗ (bigSep Finset.univ fun i => crd c (.s1 0 i)) ∗ (bigSep Finset.univ fun i => crd c (.s2 0 i))
        ∗ (bigSep Finset.univ fun i => crd c (.s1 1 i)) ∗ (bigSep Finset.univ fun i => crd c (.s2 1 i))
        ∗ (bigSep Finset.univ fun i => crd c (.sr i)) ∗ atPos ER (kcell (c, 1)) 0 ∅ 0 ∗ atPos ER (kcell (c, 9)) 0 ∅ 0)
      ⊢ iprop(((∃ W, owes (c : Thread nD τ) (owedL c []) W) ∗ (atPos ER (kcell (c, 1)) 1 ∅ 0 ∗ bigSep (on 1) (pay m c))
          ∗ (atPos ER (kcell (c, 9)) 1 ∅ 0 ∗ bigSep (on 9) (pay m c)) -∗ wpB c k Q)
        -∗ wpB c (drain c k) Q) := by
  have hM : ∀ kk, records m K ⊢ MayWait (c : Thread nD τ) (csem kk) () (owedL c []) := fun kk => may_wait m K c kk [] (fun d hd => nomatch hd)
  iintro ⟨#HR, HO, Hc1, Hc2, Hc3, Hc4, Hc5, Ha, Hb⟩ Hk
  ihave HS := (St_zero m c 1 (by decide)) $$ Ha
  unfold drain
  iapply (waits_loop m K c 1 (slot1 0) (fun _ => src1 0) sendS (exact_slot1 0) (fun _ => exact_src1 0) csem_send (fun _ => credit_src1 0) (owedL c []) (hM 1)
    _ Q l3 0 (by decide)) $$ [HO Hc1 HS] [Hc2 Hc3 Hc4 Hc5 Hb Hk]
  · isplitr; · iexact HR
    isplitl [Hc1]; · rw [← univ3]; iexact Hc1
    isplitl [HO]; · iexact HO
    iexact HS
  iintro ⟨HO, HS⟩
  iapply (waits_loop m K c 1 (slot2 0) (fun _ => src2 0) sendS (exact_slot2 0) (fun _ => exact_src2 0) csem_send (fun _ => credit_src2 0) (owedL c []) (hM 1)
    _ Q l7 3 (by decide)) $$ [HO Hc2 HS] [Hc3 Hc4 Hc5 Hb Hk]
  · isplitr; · iexact HR
    isplitl [Hc2]; · rw [← univ7]; iexact Hc2
    isplitl [HO]; · iexact HO
    iexact HS
  iintro ⟨HO, HS⟩
  iapply (waits_loop m K c 1 (slot1 1) (fun _ => src1 1) sendS (exact_slot1 1) (fun _ => exact_src1 1) csem_send (fun _ => credit_src1 1) (owedL c []) (hM 1)
    _ Q l3 10 (by decide)) $$ [HO Hc3 HS] [Hc4 Hc5 Hb Hk]
  · isplitr; · iexact HR
    isplitl [Hc3]; · rw [← univ3]; iexact Hc3
    isplitl [HO]; · iexact HO
    iexact HS
  iintro ⟨HO, HS⟩
  iapply (waits_loop m K c 1 (slot2 1) (fun _ => src2 1) sendS (exact_slot2 1) (fun _ => exact_src2 1) csem_send (fun _ => credit_src2 1) (owedL c []) (hM 1)
    _ Q l7 13 (by decide)) $$ [HO Hc4 HS] [Hc5 Hb Hk]
  · isplitr; · iexact HR
    isplitl [Hc4]; · rw [← univ7]; iexact Hc4
    isplitl [HO]; · iexact HO
    iexact HS
  iintro ⟨HO, HS⟩
  iapply (waits_loop m K c 9 slotR (srcR c) srS exact_slotR (exact_srcR c) csem_sr (fun i => credit_srcR c i) (owedL c []) (hM 9)
    _ Q l31 0 (by decide)) $$ [HO Hc5 Hb] [HS Hk]
  · isplitr; · iexact HR
    isplitl [Hc5]; · rw [← univ31]; iexact Hc5
    isplitl [HO]; · iexact HO
    iapply (St_zero m c 9 (by decide)); iexact Hb
  iintro ⟨HO, HT⟩
  iapply Hk
  isplitl [HO]; · iexact HO
  isplitl [HS]
  · iapply (Entails.of_eq (St_last m c 1 (13 + l7.length) rfl)); iexact HS
  · iapply (Entails.of_eq (St_last m c 9 (0 + l31.length) rfl)); iexact HT

end Cert.Allreduce
-- ==== Proof.Sound.lean ====
/-
# The whole body

The buffers cut into the slots and joined again, the ghost state taken apart by phases, and the body's run from what a device starts with to
what it ends with.
-/
module

public import proofs.«01_k».proof.Proof.Segments
public import proofs.«01_k».proof.Proof.Phases

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 10 → ℕ)

/-! ## The buffers, cut and joined -/

theorem each {B : Type} [Fintype B] [DecidableEq B] (Φ Ψ : B → sProp 𝕄) (h : ∀ b, Φ b ⊢ Ψ b) : bigSep Finset.univ Φ ⊢ bigSep Finset.univ Ψ :=
  bigSep_mono fun b _ => h b

section Buffers
variable {ℓ : Loc nD τ sig}

theorem cut_some {B : Type} [Fintype B] [DecidableEq B] (I : B → Finset (Idx ℓ)) (hI : ∀ b b', b ≠ b' → Disjoint (I b) (I b')) :
    (iprop(∃ f : Buf (Elt F) ℓ, ℓ ↦{fullShare} f) : sProp 𝕄)
      ⊢ iprop((bigSep Finset.univ fun b => iprop(∃ f : Buf (Elt F) ℓ, ℓ ↦[I b]{fullShare} f))
          ∗ (∃ f : Buf (Elt F) ℓ, ℓ ↦[Finset.univ \ Finset.univ.biUnion I]{fullShare} f)) := by
  iintro ⟨%f, H⟩
  ihave H := (cut I hI f) $$ H
  icases H with ⟨H, Hr⟩
  isplitl [H]
  · iapply (each (fun b => ℓ ↦[I b]{fullShare} f) (fun b => iprop(∃ f : Buf (Elt F) ℓ, ℓ ↦[I b]{fullShare} f)) fun b => by iintro H; iexists f; iexact H); iexact H
  · iexists f; iexact Hr

theorem two_prod {n : ℕ} (Φ : Fin 2 × Fin n → sProp 𝕄) :
    bigSep Finset.univ Φ = iprop((bigSep Finset.univ fun i => Φ (0, i)) ∗ bigSep Finset.univ fun i => Φ (1, i)) := by
  rw [bigSep_univ_prod, bigSep_univ_eq_bigSepL ([0, 1] : List (Fin 2)) (by decide) (by decide)]
  rfl
theorem two_one (Φ : Fin 2 → sProp 𝕄) : bigSep Finset.univ Φ = iprop(Φ 0 ∗ Φ 1) := by
  rw [bigSep_univ_eq_bigSepL ([0, 1] : List (Fin 2)) (by decide) (by decide)]
  rfl

end Buffers

/-- What a buffer has beside the parts of it that are cut out. -/
abbrev left {B : Type} [Fintype B] (c : Dev nD) (b : Ref sig .tc) (I : B → Finset (Idx ((c : Thread nD τ).loc b))) : sProp 𝕄 :=
  iprop(∃ f : Buf (Elt F) ((c : Thread nD τ).loc b), ((c : Thread nD τ).loc b) ↦[Finset.univ \ Finset.univ.biUnion I]{fullShare} f)

abbrev left0 (c : Dev nD) : sProp 𝕄 := left (F := F) c cc0_scratch0 fun p : Fin 2 × Fin 3 => (slot1 p.1 p.2).view.set
abbrev left1 (c : Dev nD) : sProp 𝕄 := left (F := F) c cc0_scratch1 fun p : Fin 2 × Fin 7 => (slot2 p.1 p.2).view.set
abbrev left2 (c : Dev nD) : sProp 𝕄 := left (F := F) c cc0_scratch2 fun p : Fin 2 => (src1 p).view.set
abbrev left3 (c : Dev nD) : sProp 𝕄 := left (F := F) c cc0_scratch3 fun p : Fin 2 => (src2 p).view.set
abbrev left4 (c : Dev nD) : sProp 𝕄 := left (F := F) c cc0_scratch4 fun p : Fin 31 => (slotR p).view.set

theorem cut0 (c : Dev nD) : (iprop(∃ f, all c cc0_scratch0 f) : sProp 𝕄)
    ⊢ iprop(((bigSep Finset.univ fun i => free c (slot1 0 i)) ∗ bigSep Finset.univ fun i => free c (slot1 1 i)) ∗ left0 c) := by
  rw [← two_prod fun p : Fin 2 × Fin 3 => free (F := F) c (slot1 p.1 p.2)]
  exact cut_some (ℓ := (c : Thread nD τ).loc cc0_scratch0) (fun p : Fin 2 × Fin 3 => (slot1 p.1 p.2).view.set) slot1_disjoint
theorem join0 (c : Dev nD) :
    iprop(((bigSep Finset.univ fun i => free c (slot1 0 i)) ∗ bigSep Finset.univ fun i => free c (slot1 1 i)) ∗ left0 c)
      ⊢ (iprop(∃ f, all c cc0_scratch0 f) : sProp 𝕄) := by
  rw [← two_prod fun p : Fin 2 × Fin 3 => free (F := F) c (slot1 p.1 p.2)]
  exact join (ℓ := (c : Thread nD τ).loc cc0_scratch0) (fun p : Fin 2 × Fin 3 => (slot1 p.1 p.2).view.set) slot1_disjoint
theorem cut1 (c : Dev nD) : (iprop(∃ f, all c cc0_scratch1 f) : sProp 𝕄)
    ⊢ iprop(((bigSep Finset.univ fun i => free c (slot2 0 i)) ∗ bigSep Finset.univ fun i => free c (slot2 1 i)) ∗ left1 c) := by
  rw [← two_prod fun p : Fin 2 × Fin 7 => free (F := F) c (slot2 p.1 p.2)]
  exact cut_some (ℓ := (c : Thread nD τ).loc cc0_scratch1) (fun p : Fin 2 × Fin 7 => (slot2 p.1 p.2).view.set) slot2_disjoint
theorem join1 (c : Dev nD) :
    iprop(((bigSep Finset.univ fun i => free c (slot2 0 i)) ∗ bigSep Finset.univ fun i => free c (slot2 1 i)) ∗ left1 c)
      ⊢ (iprop(∃ f, all c cc0_scratch1 f) : sProp 𝕄) := by
  rw [← two_prod fun p : Fin 2 × Fin 7 => free (F := F) c (slot2 p.1 p.2)]
  exact join (ℓ := (c : Thread nD τ).loc cc0_scratch1) (fun p : Fin 2 × Fin 7 => (slot2 p.1 p.2).view.set) slot2_disjoint
theorem cut2 (c : Dev nD) : (iprop(∃ f, all c cc0_scratch2 f) : sProp 𝕄) ⊢ iprop((free c (src1 0) ∗ free c (src1 1)) ∗ left2 c) := by
  rw [← two_one fun p : Fin 2 => free (F := F) c (src1 p)]
  exact cut_some (ℓ := (c : Thread nD τ).loc cc0_scratch2) (fun p : Fin 2 => (src1 p).view.set) src1_disjoint
theorem join2 (c : Dev nD) : iprop((free c (src1 0) ∗ free c (src1 1)) ∗ left2 c) ⊢ (iprop(∃ f, all c cc0_scratch2 f) : sProp 𝕄) := by
  rw [← two_one fun p : Fin 2 => free (F := F) c (src1 p)]
  exact join (ℓ := (c : Thread nD τ).loc cc0_scratch2) (fun p : Fin 2 => (src1 p).view.set) src1_disjoint
theorem cut3 (c : Dev nD) : (iprop(∃ f, all c cc0_scratch3 f) : sProp 𝕄) ⊢ iprop((free c (src2 0) ∗ free c (src2 1)) ∗ left3 c) := by
  rw [← two_one fun p : Fin 2 => free (F := F) c (src2 p)]
  exact cut_some (ℓ := (c : Thread nD τ).loc cc0_scratch3) (fun p : Fin 2 => (src2 p).view.set) src2_disjoint
theorem join3 (c : Dev nD) : iprop((free c (src2 0) ∗ free c (src2 1)) ∗ left3 c) ⊢ (iprop(∃ f, all c cc0_scratch3 f) : sProp 𝕄) := by
  rw [← two_one fun p : Fin 2 => free (F := F) c (src2 p)]
  exact join (ℓ := (c : Thread nD τ).loc cc0_scratch3) (fun p : Fin 2 => (src2 p).view.set) src2_disjoint
theorem cut4 (c : Dev nD) : (iprop(∃ f, all c cc0_scratch4 f) : sProp 𝕄) ⊢ iprop((bigSep Finset.univ fun i => free c (slotR i)) ∗ left4 c) :=
  cut_some (ℓ := (c : Thread nD τ).loc cc0_scratch4) (fun p : Fin 31 => (slotR p).view.set) slotR_disjoint
theorem join4 (c : Dev nD) : iprop((bigSep Finset.univ fun i => free c (slotR i)) ∗ left4 c) ⊢ (iprop(∃ f, all c cc0_scratch4 f) : sProp 𝕄) :=
  join (ℓ := (c : Thread nD τ).loc cc0_scratch4) (fun p : Fin 31 => (slotR p).view.set) slotR_disjoint
theorem cut5 (c : Dev nD) (f : Buf (Elt F) ((c : Thread nD τ).loc cc0_scratch5)) : (all c cc0_scratch5 f : sProp 𝕄)
    ⊢ iprop((bigSep Finset.univ fun i => held c (srcR c i) fullShare f) ∗ ((c : Thread nD τ).loc cc0_scratch5 ↦[rest5 c]{fullShare} f)) :=
  cut (ℓ := (c : Thread nD τ).loc cc0_scratch5) (fun p : Fin 31 => (srcR c p).view.set) (srcR_disjoint c) f
theorem join5 (c : Dev nD) (f : Buf (Elt F) ((c : Thread nD τ).loc cc0_scratch5)) :
    iprop((bigSep Finset.univ fun i => held c (srcR c i) fullShare f) ∗ ((c : Thread nD τ).loc cc0_scratch5 ↦[rest5 c]{fullShare} f))
      ⊢ (iprop(∃ f, all c cc0_scratch5 f) : sProp 𝕄) := by
  iintro ⟨H, Hr⟩
  iapply (join (F := F) (ℓ := (c : Thread nD τ).loc cc0_scratch5) (fun p : Fin 31 => (srcR c p).view.set) (srcR_disjoint c))
  isplitl [H]
  · iapply (each (fun i : Fin 31 => held (F := F) c (srcR c i) fullShare f) (fun i => iprop(∃ f : Buf (Elt F) ((c : Thread nD τ).loc cc0_scratch5),
      ((c : Thread nD τ).loc cc0_scratch5) ↦[(srcR c i).view.set]{fullShare} f)) fun b => by iintro H; iexists f; iexact H); iexact H
  · iexists f; iexact Hr

theorem free_of {sp : Space} {s : Shape} {e : EltTy} (c : Dev nD) (v : Memref sig .tc sp s e) (f : Buf (Elt F) (v.view.loc (c : Thread nD τ))) :
    held c v fullShare f ⊢ free (F := F) c v := by
  unfold free
  iintro H; iexists f; iexact H
theorem frees_of {n : ℕ} {sp : Space} {s : Shape} {e : EltTy} (c : Dev nD) (v : Fin n → Memref sig .tc sp s e) (f : ∀ i, Buf (Elt F) ((v i).view.loc (c : Thread nD τ))) :
    (bigSep Finset.univ fun i => held c (v i) fullShare (f i)) ⊢ bigSep Finset.univ fun i => free (F := F) c (v i) :=
  bigSep_mono fun i _ => free_of c (v i) (f i)

/-! ## The ghost state, by phases -/

theorem split_all (Φ : Duty → sProp 𝕄) : bigSep Finset.univ Φ
    = iprop(bigSepL owed Φ ∗ (bigSep Finset.univ fun i => Φ (.s1 0 i)) ∗ (bigSep Finset.univ fun i => Φ (.s2 0 i))
      ∗ (bigSep Finset.univ fun i => Φ (.s1 1 i)) ∗ (bigSep Finset.univ fun i => Φ (.s2 1 i)) ∗ (bigSep Finset.univ fun i => Φ (.sr i))) := by
  rw [bigSep_univ_eq_bigSepL (owed ++ own) rfl nodup_all, bigSepL_append]
  unfold own
  simp only [List.append_nil, bigSepL_append, bigSepL_map, ← univ3, ← univ7, ← univ31]
theorem split_owed (Φ : Duty → sProp 𝕄) : bigSepL owed Φ
    = iprop((bigSep Finset.univ fun i => Φ (.barR i)) ∗ (bigSep Finset.univ fun i => Φ (.barC i))
      ∗ (bigSep Finset.univ fun i => Φ (.r1 0 i)) ∗ (bigSep Finset.univ fun i => Φ (.r2 0 i))
      ∗ (bigSep Finset.univ fun i => Φ (.r1 1 i)) ∗ (bigSep Finset.univ fun i => Φ (.r2 1 i)) ∗ (bigSep Finset.univ fun i => Φ (.rs i))) := by
  unfold owed
  simp only [List.append_nil, bigSepL_append, bigSepL_map, ← univ3, ← univ7, ← univ31]

theorem cred_many {I : Type} (g : GSem nD τ sig) (a : ℕ) (l : List I) :
    (bigSepL l fun _ => (cred (tallyAt g () a) : sProp 𝕄)) ⊢ cred (tallyAt g () (l.length * a)) := by
  induction l with
  | nil => rw [List.length_nil, Nat.zero_mul, tallyAt_zero, cred_zero]; exact Entails.of_eq rfl
  | cons i l ih =>
    rw [bigSepL_cons', List.length_cons, Nat.succ_mul, Nat.add_comm, ← tallyAt_add]
    iintro ⟨H1, H2⟩
    iapply (cred_add _ _).2
    isplitl [H1]; · iexact H1
    iapply ih; iexact H2

theorem bar_cred (c : Dev nD) : iprop((bigSep Finset.univ fun i => crd c (.barR i)) ∗ bigSep Finset.univ fun i => crd c (.barC i))
    ⊢ (cred (tallyAt (kcell (c, 0)) () 10) : sProp 𝕄) := by
  rw [univ3, univ7]
  have h := cred_many (F := F) (kcell (c, 0)) 1 (l3.map Duty.barR ++ l7.map Duty.barC)
  rw [bigSepL_append, bigSepL_map, bigSepL_map] at h
  exact h

theorem ten (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) := by
  rw [bigSep_univ_eq_bigSepL ([0, 1, 2, 3, 4, 5, 6, 7, 8, 9] : List (Fin 10)) (by decide) (by decide)]
  rfl

/-- Where a device ends on each of its cells. -/
def fin : Fin 10 → ℕ := ![1, 1, 1, 1, 0, 1, 1, 0, 1, 1]
theorem fin_ok (k : Fin 10) : 1 ≤ fin k ∨ nk k = 0 := by revert k; decide

theorem close_list (c : Dev nD) (l : List (Fin 10)) :
    iprop(records m K ∗ bigSepL l fun k => atPos ER (kcell (c, k)) (fin k) ∅ 0)
      ⊢ (|={Set.univ}=> bigSepL l fun k => semVal (kcell (c, k)) 0 : sProp 𝕄) := by
  induction l with
  | nil => iintro ⟨-, H⟩; imodintro; iexact H
  | cons k l ih =>
    rw [bigSepL_cons', bigSepL_cons']
    iintro ⟨#HR, Hk, Hl⟩
    imod (close_cell m K c k (fin k) (fin_ok k)) $$ [Hk] with Hk
    · isplitr; · iexact HR
      iexact Hk
    imod ih $$ [Hl] with Hl
    · isplitr; · iexact HR
      iexact Hl
    imodintro
    isplitl [Hk]; · iexact Hk
    iexact Hl
theorem close_all (c : Dev nD) :
    iprop(records m K ∗ bigSep Finset.univ fun k => atPos ER (kcell (c, k)) (fin k) ∅ 0)
      ⊢ (|={Set.univ}=> bigSep Finset.univ fun k => semVal (kcell (c, k)) 0 : sProp 𝕄) := by
  rw [bigSep_univ_eq_bigSepL ([0, 1, 2, 3, 4, 5, 6, 7, 8, 9] : List (Fin 10)) (by decide) (by decide),
    bigSep_univ_eq_bigSepL ([0, 1, 2, 3, 4, 5, 6, 7, 8, 9] : List (Fin 10)) (by decide) (by decide)]
  exact close_list m K c _

/-! ## The body -/

/-- The arguments' staged blocks. -/
def args (c : Dev nD) : sProp 𝕄 :=
  iprop(all c cc0_stg0_0 (xA m c) ∗ all c cc0_stg1_0 (wi0A m c) ∗ all c cc0_stg2_0 (wo0A m c) ∗ all c cc0_stg3_0 (wi1A m c)
    ∗ all c cc0_stg4_0 (wo1A m c) ∗ all c cc0_stg5_0 (wi2A m c) ∗ all c cc0_stg6_0 (wo2A m c))
/-- The body's own buffers, whatever they have. -/
def scratch (c : Dev nD) : sProp 𝕄 :=
  iprop((∃ f, all c cc0_scratch0 f) ∗ (∃ f, all c cc0_scratch1 f) ∗ (∃ f, all c cc0_scratch2 f) ∗ (∃ f, all c cc0_scratch3 f)
    ∗ (∃ f, all c cc0_scratch4 f) ∗ (∃ f, all c cc0_scratch5 f))
/-- What a device may use of the protocol. -/
def ghost (c : Dev nD) : sProp 𝕄 :=
  iprop((bigSep Finset.univ fun k => atPos ER (kcell (c, k)) 0 ∅ 0) ∗ (bigSep Finset.univ fun d => tok c d) ∗ bigSepL owed fun d => crd c d)

theorem ext_zero (c d : Dev nD) : ext (F := F) 0 c d = bigSep Finset.univ fun a : Fin 4 => landing (rowF c a) d := if_pos rfl
theorem ext_one (c d : Dev nD) : ext (F := F) 1 c d = iprop(emp) := if_neg (by decide)

/-- What a layer's first, or second, phase lent to its copies, back. -/
theorem back1 (c : Dev nD) (l : Fin 2) :
    iprop(held c (src1 l) (Transfers.shareDrop fullShare 3) (fillS (snd1 m l c)) ∗ bigSep Finset.univ fun i => pay m c (.s1 l i)) ⊢ free (F := F) c (src1 l) := by
  iintro H
  iapply (free_of (F := F) c (src1 l) (fillS (snd1 m l c)))
  iapply (Transfers.pointsTo_toks_join fullShare 3); iexact H
theorem back2 (c : Dev nD) (l : Fin 2) :
    iprop(held c (src2 l) (Transfers.shareDrop fullShare 7) (fillS (snd2 m l c)) ∗ bigSep Finset.univ fun i => pay m c (.s2 l i)) ⊢ free (F := F) c (src2 l) := by
  iintro H
  iapply (free_of (F := F) c (src2 l) (fillS (snd2 m l c)))
  iapply (Transfers.pointsTo_toks_join fullShare 7); iexact H

theorem sound_body (c : Dev nD) (W : Waits sig Unit) (Q : PUnit → sProp 𝕄) :
    iprop(records m K ∗ ghost c ∗ owes (c : Thread nD τ) (owedL c owed) W ∗ args m c ∗ (∃ f, all c cc0_stg7_0 f) ∗ scratch c)
      ⊢ iprop(((∃ W, owes (c : Thread nD τ) (owedL c []) W) ∗ args m c ∗ all c cc0_stg7_0 (outA m c) ∗ scratch c
          ∗ (bigSep Finset.univ fun k => semVal (kcell (c, k)) 0) -∗ Q ⟨⟩)
        -∗ wpB c body Q) := by
  unfold ghost args scratch
  rw [ten, split_all, split_owed, split_owed]
  iintro ⟨#HR, ⟨⟨A0, A1, A2, A3, A4, A5, A6, A7, A8, A9⟩, ⟨⟨TbR, TbC, Tr10, Tr20, Tr11, Tr21, Trs⟩, Ts10, Ts20, Ts11, Ts21, Tsr⟩,
      ⟨CbR, CbC, Cr10, Cr20, Cr11, Cr21, Crs⟩⟩, HO, ⟨X, WI0, WO0, WI1, WO1, WI2, WO2⟩, Hout, ⟨B0, B1, B2, B3, B4, B5⟩⟩ Hk
  ihave B0 := (cut0 c) $$ B0
  icases B0 with ⟨⟨P10, P11⟩, L0⟩
  ihave B1 := (cut1 c) $$ B1
  icases B1 with ⟨⟨P20, P21⟩, L1⟩
  ihave B2 := (cut2 c) $$ B2
  icases B2 with ⟨⟨S10, S11⟩, L2⟩
  ihave B3 := (cut3 c) $$ B3
  icases B3 with ⟨⟨S20, S21⟩, L3⟩
  ihave B4 := (cut4 c) $$ B4
  icases B4 with ⟨B4, L4⟩
  ihave B4 := (Entails.of_eq (hand_out (F := F) c)) $$ B4
  icases B4 with ⟨Hcol, Hrow⟩
  unfold body
  rw [show wpB c (.op .deviceId _) Q = _ from wp_deviceId ..]
  -- the signals
  iapply (signals_spec m K c W _ Q) $$ [HO TbR TbC P10 P11 P20 P21 Hrow]
  · isplitr; · iexact HR
    isplitl [HO]; · iexact HO
    isplitl [TbR]; · iexact TbR
    isplitl [TbC]; · iexact TbC
    isplitl [P10]; · iexact P10
    isplitl [P11]; · iexact P11
    isplitl [P20]; · iexact P20
    isplitl [P21]; · iexact P21
    iexact Hrow
  iintro HO
  -- layer 0
  iapply (head0_spec m c _ Q) $$ [X WI0 WO0 S10]
  · isplitl [X]; · iexact X
    isplitl [WI0]; · iexact WI0
    isplitl [WO0]; · iexact WO0
    iexact S10
  iintro ⟨X, WI0, WO0, S10⟩
  ihave Cb := (bar_cred c) $$ [CbR CbC]
  · isplitl [CbR]; · iexact CbR
    iexact CbC
  iapply (wait_bar m K c (owedL c o3) W (may_wait m K c 0 o3 (by decide)) _ Q) $$ [Cb HO A0]
  · isplitr; · iexact HR
    isplitl [Cb]; · iexact Cb
    isplitl [HO]; · iexact HO
    iexact A0
  rw [St_last m c 0 10 rfl]
  iintro ⟨HO, A0, Hp⟩
  ihave Hp := (take_bar m c) $$ Hp
  icases Hp with ⟨P10, P11, P20, P21, Hrow⟩
  ihave Hh := (Entails.of_eq (hand_on (F := F) c)) $$ [Hcol Hrow]
  · isplitl [Hcol]; · iexact Hcol
    iexact Hrow
  icases Hh with ⟨Hmine, Hcol⟩
  iapply (row_spec m K c 0 o4 (by decide) _ Q) $$ [HO S10 P10 Ts10 Tr10 Cr10 A2]
  · isplitr; · iexact HR
    isplitl [HO]; · iexact HO
    isplitl [S10]; · iexact S10
    isplitl [P10]; · iexact P10
    isplitl [Ts10]; · iexact Ts10
    isplitl [Tr10]; · iexact Tr10
    isplitl [Cr10]; · iexact Cr10
    iexact A2
  iintro ⟨HO, D10, Cs10, A2, P10⟩
  iapply (mid_spec c 0 (fun i => snd1 m 0 (rowD c i.rev)) (k0_pay4 (part0 m c)) _ Q) $$ [P10 S20]
  · isplitl [P10]; · iexact P10
    iexact S20
  iintro ⟨P10, S20⟩
  iapply (col_spec m K c 0 o5 (by decide) _ Q) $$ [HO S20 P20 Hcol Ts20 Tr20 Cr20 A5]
  · isplitr; · iexact HR
    isplitl [HO]; · iexact HO
    isplitl [S20]; · iexact S20
    isplitl [P20]; · iexact P20
    isplitl [Hcol]; · simp only [ext_zero]; iexact Hcol
    isplitl [Ts20]; · iexact Ts20
    isplitl [Tr20]; · iexact Tr20
    isplitl [Cr20]; · iexact Cr20
    iexact A5
  iintro ⟨HO, D20, Cs20, A5, P20, Hcol⟩
  simp only [ext_zero]
  ihave Hto := (Entails.of_eq (hand_in (F := F) c)) $$ [Hmine Hcol]
  · isplitl [Hmine]; · iexact Hmine
    iexact Hcol
  -- layer 1
  iapply (head1_spec m c _ Q) $$ [P20 WI1 WO1 S11]
  · isplitl [P20]; · iexact P20
    isplitl [WI1]; · iexact WI1
    isplitl [WO1]; · iexact WO1
    iexact S11
  iintro ⟨P20, WI1, WO1, S11⟩
  iapply (row_spec m K c 1 o6 (by decide) _ Q) $$ [HO S11 P11 Ts11 Tr11 Cr11 A3]
  · isplitr; · iexact HR
    isplitl [HO]; · iexact HO
    isplitl [S11]; · iexact S11
    isplitl [P11]; · iexact P11
    isplitl [Ts11]; · iexact Ts11
    isplitl [Tr11]; · iexact Tr11
    isplitl [Cr11]; · iexact Cr11
    iexact A3
  iintro ⟨HO, D11, Cs11, A3, P11⟩
  iapply (mid_spec c 1 (fun i => snd1 m 1 (rowD c i.rev)) (fun v => k0_pay9 (k0_pay8 (part1 m c) v)) _ Q) $$ [P11 S21]
  · isplitl [P11]; · iexact P11
    iexact S21
  iintro ⟨P11, S21⟩
  iapply (col_spec m K c 1 o7 (by decide) _ Q) $$ [HO S21 P21 Ts21 Tr21 Cr21 A6]
  · isplitr; · iexact HR
    isplitl [HO]; · iexact HO
    isplitl [S21]; · iexact S21
    isplitl [P21]; · iexact P21
    isplitr; · simp only [ext_one]; iapply (Entails.of_eq (bigSep_emp_const _).symm); iempintro
    isplitl [Ts21]; · iexact Ts21
    isplitl [Tr21]; · iexact Tr21
    isplitl [Cr21]; · iexact Cr21
    iexact A6
  iintro ⟨HO, D21, Cs21, A6, P21, -⟩
  -- layer 2
  iapply (head2_spec m c _ Q) $$ [P21 WI2 WO2 B5]
  · isplitl [P21]; · iexact P21
    isplitl [WI2]; · iexact WI2
    isplitl [WO2]; · iexact WO2
    iexact B5
  iintro ⟨P21, WI2, WO2, B5⟩
  ihave B5 := (cut5 c (part2 m c)) $$ B5
  icases B5 with ⟨B5, L5⟩
  unfold tail
  iapply (scatter_spec m K c _ Q) $$ [HO B5 Hto Tsr Trs Crs A8]
  · isplitr; · iexact HR
    isplitl [HO]; · iexact HO
    isplitl [B5]; · iexact B5
    isplitl [Hto]; · iexact Hto
    isplitl [Tsr]; · iexact Tsr
    isplitl [Trs]; · iexact Trs
    isplitl [Crs]; · iexact Crs
    iexact A8
  iintro ⟨HO, Csr, A8, B4⟩
  iapply (out_spec m c _ Q) $$ [L5 B4 Hout]
  · isplitl [L5]; · iexact L5
    isplitl [B4]; · iexact B4
    iexact Hout
  iintro ⟨L5, B4, Hout⟩
  -- the copies have left
  iapply (drain_spec m K c _ Q) $$ [HO Cs10 Cs20 Cs11 Cs21 Csr A1 A9]
  · isplitr; · iexact HR
    isplitl [HO]; · iexact HO
    isplitl [Cs10]; · iexact Cs10
    isplitl [Cs20]; · iexact Cs20
    isplitl [Cs11]; · iexact Cs11
    isplitl [Cs21]; · iexact Cs21
    isplitl [Csr]; · iexact Csr
    isplitl [A1]; · iexact A1
    iexact A9
  rw [on_send, on_sr]
  iintro ⟨HO, ⟨A1, E10, E20, E11, E21⟩, A9, B5⟩
  ihave S10 := (back1 m c 0) $$ [D10 E10]
  · isplitl [D10]; · iexact D10
    iexact E10
  ihave S20 := (back2 m c 0) $$ [D20 E20]
  · isplitl [D20]; · iexact D20
    iexact E20
  ihave S11 := (back1 m c 1) $$ [D11 E11]
  · isplitl [D11]; · iexact D11
    iexact E11
  ihave S21 := (back2 m c 1) $$ [D21 E21]
  · isplitl [D21]; · iexact D21
    iexact E21
  ihave B5 := (join5 c (part2 m c)) $$ [B5 L5]
  · isplitl [B5]; · iexact B5
    iexact L5
  ihave P10 := (frees_of c (slot1 0) (fun _ => fill1 fun i => snd1 m 0 (rowD c i.rev))) $$ P10
  ihave P11 := (frees_of c (slot1 1) (fun _ => fill1 fun i => snd1 m 1 (rowD c i.rev))) $$ P11
  ihave P20 := (frees_of c (slot2 0) (fun _ => fill2 fun i => snd2 m 0 (colD c i.rev))) $$ P20
  ihave P21 := (frees_of c (slot2 1) (fun _ => fill2 fun i => snd2 m 1 (colD c i.rev))) $$ P21
  ihave B4 := (frees_of c slotR (fun _ => fillR (part2 m) c)) $$ B4
  ihave B0 := (join0 c) $$ [P10 P11 L0]
  · isplitl [P10 P11]
    · isplitl [P10]; · iexact P10
      iexact P11
    · iexact L0
  ihave B1 := (join1 c) $$ [P20 P21 L1]
  · isplitl [P20 P21]
    · isplitl [P20]; · iexact P20
      iexact P21
    · iexact L1
  ihave B2 := (join2 c) $$ [S10 S11 L2]
  · isplitl [S10 S11]
    · isplitl [S10]; · iexact S10
      iexact S11
    · iexact L2
  ihave B3 := (join3 c) $$ [S20 S21 L3]
  · isplitl [S20 S21]
    · isplitl [S20]; · iexact S20
      iexact S21
    · iexact L3
  ihave B4 := (join4 c) $$ [B4 L4]
  · isplitl [B4]; · iexact B4
    iexact L4
  -- the cells close
  imod (close_all m K c) $$ [A0 A1 A2 A3 A4 A5 A6 A7 A8 A9] with Hz
  · isplitr; · iexact HR
    rw [ten]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  rw [wp_ret]
  imodintro
  iapply Hk
  isplitl [HO]; · iexact HO
  isplitl [X WI0 WO0 WI1 WO1 WI2 WO2]
  · isplitl [X]; · iexact X
    isplitl [WI0]; · iexact WI0
    isplitl [WO0]; · iexact WO0
    isplitl [WI1]; · iexact WI1
    isplitl [WO1]; · iexact WO1
    isplitl [WI2]; · iexact WI2
    iexact WO2
  isplitl [Hout]; · iexact Hout
  isplitl [B0 B1 B2 B3 B4 B5]
  · isplitl [B0]; · iexact B0
    isplitl [B1]; · iexact B1
    isplitl [B2]; · iexact B2
    isplitl [B3]; · iexact B3
    isplitl [B4]; · iexact B4
    iexact B5
  iexact Hz

end Cert.Allreduce
-- ==== Proof.Region.lean ====
/-
# The region

The proof data of the one region and the body's obligation.
-/
module

public import proofs.«01_k».proof.Proof.Sound
public import proofs.«01_k».proof.Proof.Gen.KernelIdeal.Frame

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

def t₀ : Fin cfg0.N := ⟨0, by rw [show cfg0.N = 1 from N_0]; decide⟩
theorem fin_N (t : Fin cfg0.N) : t = t₀ := by
  obtain ⟨t, ht⟩ := t; have : cfg0.N = 1 := N_0; exact Fin.ext (by simp only [t₀]; omega)

abbrev s₀ : MemSt nD τ sig (Elt F) := ⟨m, fun _ => 0, ρ⟩

/-- What a device's body starts with, beside its buffers. -/
def start (c : Dev nD) : sProp 𝕄 := iprop(∃ K, records m K ∗ ghost c)
def Φ₀ (c : Dev nD) : sProp 𝕄 := iprop(start m c ∗ scratch c)
def Φ₁ (c : Dev nD) : sProp 𝕄 := iprop(scratch c ∗ bigSep Finset.univ fun k => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => wi0A m c
    | ⟨2, _⟩ => wo0A m c
    | ⟨3, _⟩ => wi1A m c
    | ⟨4, _⟩ => wo1A m c
    | ⟨5, _⟩ => wi2A m c
    | ⟨6, _⟩ => wo2A m c
    | ⟨7, _⟩ => outA m c
  Φ t := match t with
    | ⟨0, _⟩ => Φ₀ m c
    | ⟨_ + 1, _⟩ => Φ₁ c
  q _ := fullShare
  owed t := match t with
    | ⟨0, _⟩ => owedL c owed
    | ⟨_ + 1, _⟩ => owedL c []

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

theorem fetched (w : Fin 8) (h : w ≠ 7) (t : Fin cfg0.N) : (cfg0.win w).fetch t = true := by
  rw [fin_N t]; revert h; fin_cases w <;> first | (intro; rfl) | (intro h; exact absurd rfl h)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer held whole at contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_in (c : Dev nD) (b : Ref sig .tc) (X : b.ty.Contents (Elt F)) : all c b X ⊢ stg (F := F) c b X := by
  iintro H; iexists X
  isplitr; · (ipureintro; rfl)
  iexact H

set_option maxRecDepth 60000 in
def bodyPre (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

set_option maxRecDepth 60000 in
def bodyPost (c : Dev nD) : sProp 𝕄 :=
  iprop(Φ₁ c ∗ (dats m ρ 0 c).owesAt () t₀.succ
    ∗ stg c cc0_stg0_0 (xA m c) ∗ stg c cc0_stg1_0 (wi0A m c) ∗ stg c cc0_stg2_0 (wo0A m c) ∗ stg c cc0_stg3_0 (wi1A m c)
    ∗ stg c cc0_stg4_0 (wo1A m c) ∗ stg c cc0_stg5_0 (wi2A m c) ∗ stg c cc0_stg6_0 (wo2A m c) ∗ stg c cc0_stg7_0 (outA m c))

set_option maxRecDepth 60000 in
theorem body_runs (c : Dev nD) : bodyPre m ρ c ⊢ wpB c body (fun _ => bodyPost m ρ c) := by
  unfold bodyPre bodyPost Φ₀ Φ₁ start
  iintro ⟨⟨⟨%K, #HR, Hg⟩, Hs⟩, Ho, ⟨%d0, %g0, %h0, H0⟩, ⟨%d1, %g1, %h1, H1⟩, ⟨%d2, %g2, %h2, H2⟩, ⟨%d3, %g3, %h3, H3⟩, ⟨%d4, %g4, %h4, H4⟩,
    ⟨%d5, %g5, %h5, H5⟩, ⟨%d6, %g6, %h6, H6⟩, ⟨%d7, %g7, %h7, H7⟩⟩
  have e0 : g0 = xA m c := by rw [h0]; unfold Dat.before; rw [if_pos (fetched 0 (by decide) t₀)]; rfl
  have e1 : g1 = wi0A m c := by rw [h1]; unfold Dat.before; rw [if_pos (fetched 1 (by decide) t₀)]; rfl
  have e2 : g2 = wo0A m c := by rw [h2]; unfold Dat.before; rw [if_pos (fetched 2 (by decide) t₀)]; rfl
  have e3 : g3 = wi1A m c := by rw [h3]; unfold Dat.before; rw [if_pos (fetched 3 (by decide) t₀)]; rfl
  have e4 : g4 = wo1A m c := by rw [h4]; unfold Dat.before; rw [if_pos (fetched 4 (by decide) t₀)]; rfl
  have e5 : g5 = wi2A m c := by rw [h5]; unfold Dat.before; rw [if_pos (fetched 5 (by decide) t₀)]; rfl
  have e6 : g6 = wo2A m c := by rw [h6]; unfold Dat.before; rw [if_pos (fetched 6 (by decide) t₀)]; rfl
  rw [e0, e1, e2, e3, e4, e5, e6]
  unfold Dat.owesAt Pipeline.owesWithin
  icases Ho with ⟨%W, %hW, HO⟩
  rw [show (dats m ρ 0 c).owed t₀.castSucc = owedL c owed from rfl, show (dats m ρ 0 c).owed t₀.succ = owedL c [] from rfl]
  iapply (sound_body m K c W _) $$ [Hg HO H0 H1 H2 H3 H4 H5 H6 H7 Hs]
  · isplitr; · iexact HR
    isplitl [Hg]; · iexact Hg
    isplitl [HO]; · iexact HO
    isplitl [H0 H1 H2 H3 H4 H5 H6]
    · unfold args
      isplitl [H0]; · iexact H0
      isplitl [H1]; · iexact H1
      isplitl [H2]; · iexact H2
      isplitl [H3]; · iexact H3
      isplitl [H4]; · iexact H4
      isplitl [H5]; · iexact H5
      iexact H6
    isplitl [H7]; · iexists g7; iexact H7
    iexact Hs
  unfold args
  iintro ⟨⟨%W', HO⟩, ⟨H0, H1, H2, H3, H4, H5, H6⟩, H7, Hs, Hz⟩
  isplitl [Hs Hz]
  · isplitl [Hs]; · iexact Hs
    iexact Hz
  isplitl [HO]
  · iexists W'
    isplitr; · ipureintro; exact fun _ _ => Or.inl trivial
    iexact HO
  isplitl [H0]; · iapply stg_in; iexact H0
  isplitl [H1]; · iapply stg_in; iexact H1
  isplitl [H2]; · iapply stg_in; iexact H2
  isplitl [H3]; · iapply stg_in; iexact H3
  isplitl [H4]; · iapply stg_in; iexact H4
  isplitl [H5]; · iapply stg_in; iexact H5
  isplitl [H6]; · iapply stg_in; iexact H6
  iapply stg_in; iexact H7

set_option maxRecDepth 60000 in
theorem body_obligation (c : Dev nD) : BodyObligation (dats (F := F) m ρ 0 c) (defs₀ (F := F)) 𝒱₀ () Set.univ := fun t => by
  rw [fin_N t]
  rw [bigSep_W, bigSep_W]
  simp only [owns_whole_eq]
  refine (show bodyPre m ρ c ⊢ wp frame (wpE (defs₀ (F := F)) 𝒱₀ (c : Thread nD τ) none) Set.univ
    (cc0_body xM (Memref.isWhole_whole _) wi0M (Memref.isWhole_whole _) wo0M (Memref.isWhole_whole _) wi1M (Memref.isWhole_whole _)
    wo1M (Memref.isWhole_whole _) wi2M (Memref.isWhole_whole _) wo2M (Memref.isWhole_whole _) outM (Memref.isWhole_whole _) c1M (Memref.isWhole_whole _)
    c2M (Memref.isWhole_whole _) s1M (Memref.isWhole_whole _) s2M (Memref.isWhole_whole _) crM (Memref.isWhole_whole _) srM (Memref.isWhole_whole _)
    cc0_scratch6 cc0_scratch7 cc0_scratch8 cc0_scratch9 cc0_scratch10) (fun _ => bodyPost m ρ c) from ?_)
  rw [body_eq]
  exact body_runs m ρ c

end Cert.Allreduce
-- ==== Proof.Launch.lean ====
/-
# The launch

The ghost state minted and dealt, and the run of the program: every execution ends, with each device's result at the computed contents, its
arguments as they were and every semaphore at zero.
-/
module

public import proofs.«01_k».proof.Proof.Region
public import Idealize.ShloMosaic.Lib.Pipeline.CollectiveSegs

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state, minted -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 10 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- The token with which a device pays a duty. -/
abbrev tokOf (cd : Dev nD × Duty) : GSem nD τ sig × ℕ × Duty := (payCell cd.1 cd.2, 0, cd.2)

theorem tgt_injective (d : Duty) : Function.Injective fun c => tgt c d := by
  cases d with
  | barR i => exact fun a b h => by have := congrArg (fun x => rowD x i.rev) h; simpa only [tgt, rowD_rev] using this
  | barC i => exact fun a b h => by have := congrArg (fun x => colD x i.rev) h; simpa only [tgt, colD_rev] using this
  | r1 l i => exact fun a b h => by have := congrArg (fun x => rowD x i.rev) h; simpa only [tgt, rowD_rev] using this
  | r2 l i => exact fun a b h => by have := congrArg (fun x => colD x i.rev) h; simpa only [tgt, colD_rev] using this
  | rs i => exact fun a b h => by have := congrArg (fun x => rsD x i.rev) h; simpa only [tgt, rsD_rev] using this
  | s1 l i => exact fun a b h => h
  | s2 l i => exact fun a b h => h
  | sr i => exact fun a b h => h

theorem tokOf_injective : Function.Injective tokOf := by
  rintro ⟨c, d⟩ ⟨c', d'⟩ h
  have h2 : d = d' := congrArg (fun x : GSem nD τ sig × ℕ × Duty => x.2.2) h
  subst h2
  have h1 : tgt c d = tgt c' d := congrArg (fun x : GSem nD τ sig × ℕ × Duty => x.1.1.1) h
  rw [tgt_injective d h1]
def toks : Finset (GSem nD τ sig × ℕ × Duty) := Finset.univ.map ⟨tokOf, tokOf_injective⟩

def u₀ : UU := (initOf (Pipeline.cells cfgs cellOf_inj) (Pipeline.launchToks cfgs cellOf_inj), initOf cells toks)

/-- What the launch deals a device, before and after the invariants are allocated. -/
def G (c : Dev nD) : sProp 𝕄 :=
  iprop((bigSep Finset.univ fun k : Fin 10 => roundState ER (Rd m) (kcell (c, k)) 0)
    ∗ (bigSep Finset.univ fun k : Fin 10 => iprop(atPos ER (kcell (c, k)) 0 ∅ 0 ∗ reached ER (kcell (c, k)) 0)) ∗ bigSep Finset.univ fun d => tok c d)
/-- The cells' invariants, and that each is at its round. -/
def known (K : Dev nD × Fin 10 → ℕ) : sProp 𝕄 :=
  iprop((bigSep Finset.univ fun ck : Dev nD × Fin 10 => cellInv ER (Rd m) (K ck) (kcell ck))
    ∗ bigSep Finset.univ fun ck : Dev nD × Fin 10 => reached ER (kcell ck) 0)
instance known_persistent (K : Dev nD × Fin 10 → ℕ) : BI.Persistent (known m K) := by unfold known; infer_instance
def mine (c : Dev nD) : sProp 𝕄 := iprop((bigSep Finset.univ fun k : Fin 10 => atPos ER (kcell (c, k)) 0 ∅ 0) ∗ bigSep Finset.univ fun d => tok c d)
def G' (c : Dev nD) : sProp 𝕄 := iprop(∃ K, known m K ∗ mine c)

theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : Fin 10 => Φ (kcell (c, k)) := by
    unfold cells; rw [bigSep_map, bigSep_univ_prod]; rfl
  have hT : bigSep toks (fun x => (dutyTok ER x.1 x.2.1 x.2.2 : sProp 𝕄)) = bigSep Finset.univ fun c : Dev nD => bigSep Finset.univ fun d => tok c d := by
    unfold toks; rw [bigSep_map, bigSep_univ_prod]; rfl
  iintro HX
  imod (Rounds.fund ER (Rd m) cells toks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The device's own nine semaphores and the barrier's are the ten. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 10 => semVal (kcell (c, k)) 0 : sProp 𝕄) := by
  rw [Pipeline.ownSems0_eq_of_list c osem [0, 1, 2, 3, 4, 5, 6, 7, 8] (by decide) (by decide), ten]
  unfold unscopedSems0
  rw [bigSep_eq_bigSepL_of_eq [SemLoc.reg barS] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ bigSep Finset.univ fun d => tok c d) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 10 => semVal (kcell (c, k)) 0) ∗ bigSep Finset.univ fun k : Fin 10 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem deal {I : Type} [Fintype I] [DecidableEq I] (R : sProp 𝕄) [BI.Persistent R] (Φ Ψ : I → sProp 𝕄) (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ bigSep Finset.univ fun d => tok c d) : sProp 𝕄)
      ⊢ bigSep Finset.univ (G' m) := by
  rw [bigSep_sep', bigSep_sep', ← bigSep_univ_prod (fun ck : Dev nD × Fin 10 => iprop(∃ κ : ℕ, cellInv ER (Rd m) κ (kcell ck))),
    bigSep_congr (s := Finset.univ) (fun (c : Dev nD) _ => bigSep_sep' Finset.univ (fun k : Fin 10 => (atPos ER (kcell (c, k)) 0 ∅ 0 : sProp 𝕄)) (fun k => reached ER (kcell (c, k)) 0)),
    bigSep_sep', ← bigSep_univ_prod (fun ck : Dev nD × Fin 10 => (reached ER (kcell ck) 0 : sProp 𝕄))]
  iintro ⟨HI, ⟨Hat, #HR⟩, Htok⟩
  ihave HK := (BI.bigSep_exists_pi Finset.univ (fun (ck : Dev nD × Fin 10) (κ : ℕ) => (cellInv ER (Rd m) κ (kcell ck) : sProp 𝕄))) $$ HI
  icases HK with ⟨%K, #HI⟩
  iapply (deal (known m K) mine (G' m) fun c => by unfold G'; iintro ⟨H1, H2⟩; iexists K; isplitl [H1] <;> iassumption)
  isplitr
  · unfold known; isplitl; · iexact HI
    iexact HR
  · unfold mine; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device may collect on its own cells for the payments of a list. -/
def due (c : Dev nD) (l : List Duty) : CellTallies nD τ sig Unit := (l.map fun d => tallyAt (kcell (c, dk d)) () (ak (dk d))).sum

theorem due_cons (c : Dev nD) (d : Duty) (l : List Duty) : due c (d :: l) = due c l + tallyAt (kcell (c, dk d)) () (ak (dk d)) := by
  unfold due; rw [List.map_cons, List.sum_cons, add_comm]

theorem sum_owed (l : List Duty) : (∑ c, owedL c l) = ∑ c, due c l := by
  induction l with
  | nil => rfl
  | cons d l ih =>
    simp only [owedL_cons, due_cons, Finset.sum_add_distrib, ih]
    congr 1
    exact (Finite.injective_iff_bijective.mp (tgt_injective d)).sum_comp fun c => (tallyAt (kcell (c, dk d)) () (ak (dk d)) : CellTallies nD τ sig Unit)

theorem due_own (c : Dev nD) (l : List Duty) (g : GSem nD τ sig) (h : due c l g ≠ 0) : g.1 = (c : Thread nD τ) := by
  induction l with
  | nil => exact absurd rfl h
  | cons d l ih =>
    by_contra hne
    have h0 : due c l g = 0 := by by_contra h0; exact hne (ih h0)
    apply h
    rw [due_cons, Pi.add_apply, h0, zero_add]
    refine Finsupp.ext fun u => ?_
    rw [tallyAt_apply, if_neg fun hh => hne (by rw [hh.1])]; rfl

theorem cred_due (c : Dev nD) (l : List Duty) : (cred (due c l) : sProp 𝕄) ⊢ bigSepL l fun d => crd c d := by
  induction l with
  | nil => show (cred 0 : sProp 𝕄) ⊢ _; rw [cred_zero]; exact Entails.of_eq rfl
  | cons d l ih =>
    rw [due_cons, bigSepL_cons']
    iintro H
    ihave H := (cred_add _ _).1 $$ H
    icases H with ⟨H1, H2⟩
    isplitl [H2]; · iexact H2
    iapply ih; iexact H1

theorem creds (c : Dev nD) : (Pipeline.launchCred (fun d => owedL d owed) c : sProp 𝕄) ⊢ bigSepL owed fun d => crd c d := by
  rw [Pipeline.launchCred_of_sum (fun d => owedL d owed) (fun d => due d owed) (sum_owed owed) (fun d g hg => due_own d owed g hg) c]
  exact cred_due c owed

/-! ## The run -/

theorem start_intro (c : Dev nD) :
    iprop(Pipeline.unscopedRestP Pipeline.Prefetch.none cfg0.spec c (fun b => m ((c : Thread nD τ).loc b)) ∗ levAts L lv
        ∗ Pipeline.launchCred (fun d => owedL d owed) c ∗ prngReg c (ρ c) ∗ G' m c)
      ⊢ |={Set.univ}=> iprop(start m c ∗ emp) := by
  unfold G' start known mine records ghost
  iintro ⟨-, Hlev, Hcr, -, ⟨%K, ⟨HI, HR⟩, Hat, Ht⟩⟩
  ihave Hc := (creds (F := F) c) $$ Hcr
  imodintro
  isplitl
  · iexists K
    isplitl [HI HR Hlev]
    · isplitl [HI]; · iexact HI
      isplitl [HR]; · iexact HR
      iexact Hlev
    isplitl [Hat]; · iexact Hat
    isplitl [Ht]; · iexact Ht
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = scratch (F := F) c from scopedRest0_eq c]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = scratch (F := F) c from scopedRest0_eq c]
  unfold Φ₁
  rw [← sems_eq]
  iintro ⟨Hr, Hu, Ho⟩
  isplitl [Hu]; · iexact Hu
  isplitl [Ho] <;> iassumption

theorem lv_stage : ∀ (w : Fin cfg0.W) (s : Fin (cfg0.win w).nbuf), lv (((0 : Dev nD) : Thread nD τ), SemLoc.dma ((cfg0.win w).sem s)) () ≤ 0 := by
  decide

theorem waits_ok (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ owed 0 (lv_stage w s) (by decide)
    · exact mayWait c _ [] 0 (lv_stage w s) (fun d hd => nomatch hd)

/-- Each device's arrays at the end. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 60000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL d owed) (howed₀ := fun _ => rfl) (howedN := fun _ => rfl)
    (L := L) (lv := lv) (hL := L_of_ne) (hwaits := waits_ok m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Allreduce
-- ==== Proof.Ends.lean ====
/-
# The end of a run

What the run leaves, read at the program's own arrays: the arguments as they were, the result at the computed rows.
-/
module

public import proofs.«01_k».proof.Proof.Launch
public import proofs.«01_k».proof.Defs
public import Idealize.ShloMosaic.Lib.Pipeline.Value
public import Idealize.ShloMosaic.Lib.StableHlo.RunHlo

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result's one block lies over its array index for index. -/
theorem emb_out (t : Fin cfg0.N) (x : S4x128.Idx) : (win0_7.blk t).view.emb x = x :=
  funext fun a => Fin.ext (Window.rect_emb_val_of_index_zero win0_7 t a rfl x)

/-- So it reads the result's array as it is, -/
theorem read_out (t : Fin cfg0.N) (f : FVec F S4x128 .f32) : (win0_7.blk t).view.read (Elt F) f = f :=
  funext fun x => congrArg f (emb_out t x)

/-- covers it, -/
theorem cover_out (c : Dev nD) (i : S4x128.Idx) : ∃ t : Fin cfg0.N, (cfg0.win (7 : Fin 8)).flush t = true ∧ i ∈ (win0_7.blk t).view.set :=
  ⟨t₀, rfl, by
    have h := (win0_7.blk t₀).view.emb_mem_set i
    rwa [emb_out] at h⟩

/-- and the array ends at what the body left in the staging buffer. -/
theorem arrAt_out (c : Dev nD) : (dats m ρ 0 c).arrAt (7 : Fin 8) cfg0.N = outA m c :=
  (dats m ρ 0 c).arrAt_eq_of_cover (7 : Fin 8) (outA m c) (fun t _ => (read_out t (outA m c)).symm) (cover_out c)

/-- What the program's run leaves on every device. -/
def ends (r : PUnit × MemSt nD τ sig (Elt F)) : Prop := ∀ c : Dev nD,
  r.2.mem ((c : Thread nD τ).loc main_v1) = outA m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)

/-- Every execution of the program ends so, with every semaphore at zero. -/
theorem run_ends : θ_run defs (onTc (τ := τ) (main (F := F))) ⟨m, fun _ => 0, ρ⟩ (fun r => ends m r ∧ r.2.sem = fun _ => 0) :=
  θ_run_mono (run_main m ρ) (fun r ⟨hq, hs⟩ => ⟨fun c =>
    ⟨(hq c (7 : Fin 8)).trans (arrAt_out m ρ c),
      (hq c (0 : Fin 8)).trans ((dats m ρ 0 c).arrAt_in (0 : Fin 8) rfl _), (hq c (1 : Fin 8)).trans ((dats m ρ 0 c).arrAt_in (1 : Fin 8) rfl _),
      (hq c (3 : Fin 8)).trans ((dats m ρ 0 c).arrAt_in (3 : Fin 8) rfl _), (hq c (5 : Fin 8)).trans ((dats m ρ 0 c).arrAt_in (5 : Fin 8) rfl _),
      (hq c (2 : Fin 8)).trans ((dats m ρ 0 c).arrAt_in (2 : Fin 8) rfl _), (hq c (4 : Fin 8)).trans ((dats m ρ 0 c).arrAt_in (4 : Fin 8) rfl _),
      (hq c (6 : Fin 8)).trans ((dats m ρ 0 c).arrAt_in (6 : Fin 8) rfl _)⟩, hs⟩)

/-- The idealized kernel ends on every device, keeps its arguments and leaves every semaphore at zero. -/
theorem frame_ideal [hP : Cert.KernelIdeal.Facts] : Cert.quiescent_KernelIdeal := fun m g _ =>
  θ_run_mono (run_ends (F := Ideal) m g) (fun _ ⟨hq, hs⟩ => ⟨fun c => (hq c).2, hs⟩)

end Cert.Allreduce
-- ==== Proof.Transfer.lean ====
/-
# The kernel as printed

The program before idealization has the same text, so its run is the same run at the machine's numbers.
-/
module

public import proofs.«01_k».proof.Proof.Ends

@[expose] public section

noncomputable section

namespace Cert.Allreduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 100000
set_option maxHeartbeats 2000000

/-- The two programs' bodies are one text. -/
theorem body_same [hP : Cert.Kernel.Facts] : @Cert.Kernel.cc0_body Bits _ hP = @Cert.KernelIdeal.cc0_body Bits _ Gen.facts := by
  with_unfolding_all rfl

/-- And so are their tables of bodies, before and after the pipeline's own labels join. -/
theorem defs₀_same [hP : Cert.Kernel.Facts] : @Cert.Kernel.defs₀ Bits _ hP = @Cert.KernelIdeal.defs₀ Bits _ Gen.facts := by
  unfold Cert.Kernel.defs₀ Cert.KernelIdeal.defs₀
  refine congrArg (Defs.onTc (τ := τ) (Λ := Cert.KernelIdeal.Λ₀)) ?_
  funext l a
  match l, a with
  | ⟨0, _⟩, (t, s) =>
    show Cert.Kernel.cc0_body _ _ _ _ _ _ _ _ _ _ _ _ _ _ _ _ _ _ _ _ _ _ _ _ _ _ _ _ _ _ _ _ _ = Cert.KernelIdeal.cc0_body _ _ _ _ _ _ _ _ _ _ _ _ _ _ _ _ _ _ _ _ _ _ _ _ _ _ _ _ _ _ _ _ _
    rw [body_same]

@[inherit_doc defs₀_same] theorem defs_same [hP : Cert.Kernel.Facts] : @Cert.Kernel.defs Bits _ hP = @Cert.KernelIdeal.defs Bits _ Gen.facts := by
  unfold Cert.Kernel.defs Cert.KernelIdeal.defs
  exact congrArg (Pipeline.defs Cert.KernelIdeal.pcfgs) defs₀_same

/-- And their main programs. -/
theorem main_same [hP : Cert.Kernel.Facts] : Cert.Kernel.main (F := Bits) = Cert.KernelIdeal.main (F := Bits) := rfl

/-- The kernel as printed ends on every device, keeps its arguments and leaves every semaphore at zero. -/
theorem frame_kernel [hP : Cert.Kernel.Facts] : Cert.quiescent_Kernel := fun m g _ => by
  have h := θ_run_mono (run_ends (F := Bits) m g) (Q' := fun r => (∀ c : Dev nD, _) ∧ r.2.sem = fun _ => 0) (fun _ ⟨hq, hs⟩ => ⟨fun c => (hq c).2, hs⟩)
  rw [← defs_same, ← main_same] at h
  exact h

end Cert.Allreduce
-- ==== Proof.Host.lean ====
/-
# The reference's frame

The reference is a straight run of host operations with no semaphore.
-/
module

public import proofs.«01_k».proof.Defs
public import proofs.«01_k».proof.Proof.Gen.ReferenceIdeal.Run
public import Idealize.ShloMosaic.Lib.Quiescent

@[expose] public section

noncomputable section

namespace Cert.Allreduce

open Idealize.ShloMosaic Idealize.SL.Sem

/-- The reference ends, keeps its arguments and leaves no counter raised. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Allreduce
-- ==== Proof.Value.lean ====
/-
# The payloads over the extended reals

Each payload of the kernel read at an index: a layer's product is a sum over the hidden units, a reduction the sum over the slots.
-/
module

public import proofs.«01_k».proof.Proof.Ends
public import proofs.«01_k».proof.Proof.Host
public import Idealize.ShloMosaic.Lib.Pointwise

@[expose] public section

noncomputable section

namespace Cert.Allreduce

open Cert.KernelIdeal Cert.KernelIdeal.Gen
open Idealize.ShloMosaic Idealize.ShloMosaic.TcCoe

/-- Arrays of extended reals. -/
abbrev Sq : Type := (⟨2, ![128, 128]⟩ : Shape).Idx → EReal
@[inherit_doc Sq] abbrev Wide (K : ℕ) : Type := (⟨2, ![128, K]⟩ : Shape).Idx → EReal
@[inherit_doc Sq] abbrev Tall (K : ℕ) : Type := (⟨2, ![K, 128]⟩ : Shape).Idx → EReal

/-- One layer on `K` hidden units: the product, the rectifier, the product. -/
def lay (K : ℕ) (x : Sq) (wi : Wide K) (wo : Tall K) : Sq :=
  fun j => ∑ k : Fin K, max (∑ l : Fin 128, x (ix2 (j 0) l) * wi (ix2 l k)) 0 * wo (ix2 k (j 1))

/-! ## The payloads -/

/-- A device's first product is the layer on its own hidden units. -/
theorem pay1_eq (x : Sq) (wi : Wide 256) (wo : Tall 256) : k0_pay1 (F := Ideal) x wi wo = lay 256 x wi wo := by
  funext j
  pointwise [k0_pay1, lay]

theorem pay2_apply (x : Sq) (wi : Wide 256) (wo : Tall 256) (a b : Fin 128) : k0_pay2 (F := Ideal) x wi wo (ix3 0 a b) = lay 256 x wi wo (ix2 a b) := by
  rw [← pay1_eq]
  pointwise [k0_pay2]

/-- What a device adds up from its row. -/
theorem pay3_apply (p : Sq) (g : (⟨4, ![1, 3, 128, 128]⟩ : Shape).Idx → EReal) (j : S128x128.Idx) :
    k0_pay3 (F := Ideal) p g j = p j + ∑ i : Fin 3, g (ix4 0 i (j 0) (j 1)) := by
  pointwise [k0_pay3]

theorem pay4_apply (p : Sq) (g : (⟨4, ![1, 3, 128, 128]⟩ : Shape).Idx → EReal) (a b : Fin 128) :
    k0_pay4 (F := Ideal) p g (ix3 0 a b) = k0_pay3 (F := Ideal) p g (ix2 a b) := by
  pointwise [k0_pay4]

/-- What a device adds up from its column. -/
def plus (p : Sq) (g : (⟨4, ![1, 7, 128, 128]⟩ : Shape).Idx → EReal) : Sq := fun j => p j + ∑ i : Fin 7, g (ix4 0 i (j 0) (j 1))

theorem pay5_eq (p : Sq) (g : (⟨4, ![1, 7, 128, 128]⟩ : Shape).Idx → EReal) (wi : Wide 256) (wo : Tall 256) :
    k0_pay5 (F := Ideal) p g wi wo = lay 256 (plus p g) wi wo := by
  funext j
  pointwise [k0_pay5, lay, plus]

theorem pay6_apply (p : Sq) (g : (⟨4, ![1, 7, 128, 128]⟩ : Shape).Idx → EReal) (wi : Wide 256) (wo : Tall 256) (a b : Fin 128) :
    k0_pay6 (F := Ideal) p g wi wo (ix3 0 a b) = k0_pay5 (F := Ideal) p g wi wo (ix2 a b) := by
  pointwise [k0_pay6]

theorem pay7_apply (p : Sq) (g : (⟨4, ![1, 3, 128, 128]⟩ : Shape).Idx → EReal) (j : S128x128.Idx) :
    k0_pay7 (F := Ideal) p g j = p j + ∑ i : Fin 3, g (ix4 0 i (j 0) (j 1)) := by
  pointwise [k0_pay7]

theorem pay9_apply (p : Sq) (g : (⟨4, ![1, 3, 128, 128]⟩ : Shape).Idx → EReal) (a b : Fin 128) :
    k0_pay9 (F := Ideal) (k0_pay8 (F := Ideal) p g) (ix3 0 a b) = k0_pay7 (F := Ideal) p g (ix2 a b) := by
  pointwise [k0_pay9, k0_pay8]

theorem pay12_eq (p : Sq) (g : (⟨4, ![1, 7, 128, 128]⟩ : Shape).Idx → EReal) (wi : Wide 256) (wo : Tall 256) :
    k0_pay12 (F := Ideal) (k0_pay10 (F := Ideal) p g wi) (k0_pay11 (F := Ideal)) wo = lay 256 (plus p g) wi wo := by
  funext j
  pointwise [k0_pay12, k0_pay10, k0_pay11, lay, plus]

/-- The rows a device keeps and the rows it receives, added. -/
theorem pay13_apply (p : (⟨2, ![4, 128]⟩ : Shape).Idx → EReal) (g : (⟨3, ![31, 4, 128]⟩ : Shape).Idx → EReal) (j : S4x128.Idx) :
    k0_pay13 (F := Ideal) p g j = p j + ∑ i : Fin 31, g (ix3 i (j 0) (j 1)) := by
  pointwise [k0_pay13]

/-! ## Sums over the devices -/

/-- A device of another row and column than `c`'s: first along the column, then along the row. -/
def hop (c : Dev nD) (p : Option (Fin 7) × Option (Fin 3)) : Dev nD :=
  let d := p.1.elim c fun i => colD c i.rev
  p.2.elim d fun i => rowD d i.rev
def hopR (c : Dev nD) (p : Option (Fin 31)) : Dev nD := p.elim c fun i => rsD c i.rev

theorem hop_bijective (c : Dev nD) : Function.Bijective (hop c) := by
  rw [Fintype.bijective_iff_injective_and_card]
  exact ⟨by revert c; decide +kernel, by decide⟩
theorem hopR_bijective (c : Dev nD) : Function.Bijective (hopR c) := by
  rw [Fintype.bijective_iff_injective_and_card]
  exact ⟨by revert c; decide +kernel, by decide⟩

/-- The two phases of an all-reduce sum over all devices. -/
theorem sum_phases (f : Dev nD → EReal) (c : Dev nD) :
    (f c + ∑ i : Fin 3, f (rowD c i.rev)) + ∑ k : Fin 7, (f (colD c k.rev) + ∑ i : Fin 3, f (rowD (colD c k.rev) i.rev)) = ∑ d, f d := by
  rw [← (hop_bijective c).sum_comp, Fintype.sum_prod_type, Fintype.sum_option]
  simp only [Fintype.sum_option]
  rfl

/-- The reduce-scatter sums over all devices. -/
theorem sum_scatter (f : Dev nD → EReal) (c : Dev nD) : f c + ∑ i : Fin 31, f (rsD c i.rev) = ∑ d, f d := by
  rw [← (hopR_bijective c).sum_comp, Fintype.sum_option]
  rfl

/-- The hidden units, cut in 32 blocks of 256: the layers on the blocks add up to the whole layer. -/
theorem lay_blocks (x : Sq) (wi : Wide 8192) (wo : Tall 8192) (j : (⟨2, ![128, 128]⟩ : Shape).Idx) :
    (∑ d : Fin 32, lay 256 x (Layout.block ⟨2, ![128, 256]⟩ ⟨2, ![128, 8192]⟩ 1 32 d wi) (Layout.block ⟨2, ![256, 128]⟩ ⟨2, ![8192, 128]⟩ 0 32 d wo) j) = lay 8192 x wi wo j := by
  unfold lay
  rw [← (finProdFinEquiv (m := 32) (n := 256)).sum_comp, Fintype.sum_prod_type]
  refine Finset.sum_congr rfl fun d _ => Finset.sum_congr rfl fun k _ => ?_
  have hi (l : Fin 128) : Layout.block ⟨2, ![128, 256]⟩ ⟨2, ![128, 8192]⟩ 1 32 d wi (by decide) (ix2 l k) = wi (ix2 l (finProdFinEquiv (d, k))) := by
    refine congrArg wi (funext fun a => Fin.ext ?_)
    fin_cases a
    · rfl
    · show d.val * 256 + k.val = k.val + 256 * d.val; omega
  have ho : Layout.block ⟨2, ![256, 128]⟩ ⟨2, ![8192, 128]⟩ 0 32 d wo (by decide) (ix2 k (j 1)) = wo (ix2 (finProdFinEquiv (d, k)) (j 1)) := by
    refine congrArg wo (funext fun a => Fin.ext ?_)
    fin_cases a
    · show d.val * 256 + k.val = k.val + 256 * d.val; omega
    · rfl
  simp only [hi, ho]

end Cert.Allreduce
-- ==== Proof.Equation.lean ====
/-
# The equation

Over the extended reals the kernel's rows on each device are that device's block of the reference's result.
-/
module

public import proofs.«01_k».proof.Proof.Value

@[expose] public section

noncomputable section

namespace Cert.Allreduce

open Cert.KernelIdeal Cert.KernelIdeal.Gen
open Idealize.ShloMosaic Idealize.ShloMosaic.TcCoe Idealize.SL.Sem

/-! ## The reference -/

/-- One layer of the reference, as its operations are named. -/
def layer (x : FVec Ideal Cert.ReferenceIdeal.S128x128 .bf16) (wi : FVec Ideal Cert.ReferenceIdeal.S128x8192 .bf16) (wo : FVec Ideal Cert.ReferenceIdeal.S8192x128 .bf16) :
    FVec Ideal Cert.ReferenceIdeal.S128x128 .bf16 :=
  truncf .bf16 (Host.dotGeneral Cert.ReferenceIdeal.dot_S128x8192_S8192x128_S128x128_1_0_0_1_n_n none
    (maximumf (truncf .bf16 (Host.dotGeneral Cert.ReferenceIdeal.dot_S128x128_S128x8192_S128x8192_1_0_0_1_n_n none x wi) Cert.ReferenceIdeal.Gen.bitsLt_bf16_f32)
      (broadcastInDim Cert.ReferenceIdeal.S128x8192 ![] Cert.ReferenceIdeal.Gen.bcast_S_S128x8192 (constant Cert.ReferenceIdeal.S_ .bf16 0x0000#16)))
    wo) Cert.ReferenceIdeal.Gen.bitsLt_bf16_f32

/-- The sums it is. -/
theorem layer_eq (x : Sq) (wi : Wide 8192) (wo : Tall 8192) : layer x wi wo = lay 8192 x wi wo := by
  funext j
  pointwise [layer, lay]

/-- The three layers. -/
def net (x : Sq) (wi0 wi1 wi2 : Wide 8192) (wo0 wo1 wo2 : Tall 8192) : Sq := lay 8192 (lay 8192 (lay 8192 x wi0 wo0) wi1 wo1) wi2 wo2

/-- Widening changes no extended real. -/
theorem widen_eq (v : FVec Ideal Cert.ReferenceIdeal.S128x128 .bf16) : extf .f32 v Cert.ReferenceIdeal.Gen.bitsLt_bf16_f32 = v := rfl

/-- The reference's result is the three layers. -/
theorem layers_eq (x : Sq) (wi0 wi1 wi2 : Wide 8192) (wo0 wo1 wo2 : Tall 8192) :
    extf .f32 (layer (layer (layer x wi0 wo0) wi1 wo1) wi2 wo2) Cert.ReferenceIdeal.Gen.bitsLt_bf16_f32 = net x wi0 wi1 wi2 wo0 wo1 wo2 := by
  refine (widen_eq _).trans ?_
  rw [layer_eq, layer_eq, layer_eq, net]

/-! ## The kernel -/

section
variable (m : (ℓ : Loc nD τ sig) → Buf (Elt Ideal) ℓ)

/-- Each window's block is its whole argument. -/
theorem xA_eq (c : Dev nD) : xA m c = m ((c : Thread nD τ).loc main_arg0) :=
  funext fun x => congrArg (m ((c : Thread nD τ).loc main_arg0)) (funext fun a => Fin.ext (Pipeline.Window.rect_emb_val_of_index_zero win0_0 (0 : Fin 1) a rfl x))
@[inherit_doc xA_eq] theorem wi0A_eq (c : Dev nD) : wi0A m c = m ((c : Thread nD τ).loc main_arg1) :=
  funext fun x => congrArg (m ((c : Thread nD τ).loc main_arg1)) (funext fun a => Fin.ext (Pipeline.Window.rect_emb_val_of_index_zero win0_1 (0 : Fin 1) a rfl x))
@[inherit_doc xA_eq] theorem wi1A_eq (c : Dev nD) : wi1A m c = m ((c : Thread nD τ).loc main_arg2) :=
  funext fun x => congrArg (m ((c : Thread nD τ).loc main_arg2)) (funext fun a => Fin.ext (Pipeline.Window.rect_emb_val_of_index_zero win0_3 (0 : Fin 1) a rfl x))
@[inherit_doc xA_eq] theorem wi2A_eq (c : Dev nD) : wi2A m c = m ((c : Thread nD τ).loc main_arg3) :=
  funext fun x => congrArg (m ((c : Thread nD τ).loc main_arg3)) (funext fun a => Fin.ext (Pipeline.Window.rect_emb_val_of_index_zero win0_5 (0 : Fin 1) a rfl x))
@[inherit_doc xA_eq] theorem wo0A_eq (c : Dev nD) : wo0A m c = m ((c : Thread nD τ).loc main_arg4) :=
  funext fun x => congrArg (m ((c : Thread nD τ).loc main_arg4)) (funext fun a => Fin.ext (Pipeline.Window.rect_emb_val_of_index_zero win0_2 (0 : Fin 1) a rfl x))
@[inherit_doc xA_eq] theorem wo1A_eq (c : Dev nD) : wo1A m c = m ((c : Thread nD τ).loc main_arg5) :=
  funext fun x => congrArg (m ((c : Thread nD τ).loc main_arg5)) (funext fun a => Fin.ext (Pipeline.Window.rect_emb_val_of_index_zero win0_4 (0 : Fin 1) a rfl x))
@[inherit_doc xA_eq] theorem wo2A_eq (c : Dev nD) : wo2A m c = m ((c : Thread nD τ).loc main_arg6) :=
  funext fun x => congrArg (m ((c : Thread nD τ).loc main_arg6)) (funext fun a => Fin.ext (Pipeline.Window.rect_emb_val_of_index_zero win0_6 (0 : Fin 1) a rfl x))

/-- The first phase adds a row's products, -/
theorem row0_apply (c : Dev nD) (j : (⟨2, ![128, 128]⟩ : Shape).Idx) : row0 m c j = part0 m c j + ∑ i : Fin 3, part0 m (rowD c i.rev) j := by
  refine (pay3_apply (part0 m c) (got10 m c) j).trans (congrArg (part0 m c j + ·) (Finset.sum_congr rfl fun i _ => ?_))
  refine (pay2_apply (xA m (rowD c i.rev)) (wi0A m (rowD c i.rev)) (wo0A m (rowD c i.rev)) (j 0) (j 1)).trans ?_
  rw [← pay1_eq, ← eq_ix2 j]
  rfl
/-- and the second a column's sums. -/
theorem all0 (c : Dev nD) (j : (⟨2, ![128, 128]⟩ : Shape).Idx) : plus (row0 m c) (got20 m c) j = ∑ d, part0 m d j := by
  rw [← sum_phases (fun d => part0 m d j) c]
  simp only [← row0_apply]
  refine congrArg (row0 m c j + ·) (Finset.sum_congr rfl fun k _ => ?_)
  refine (pay4_apply (part0 m (colD c k.rev)) (got10 m (colD c k.rev)) (j 0) (j 1)).trans ?_
  rw [← eq_ix2 j]
  rfl

@[inherit_doc row0_apply] theorem row1_apply (c : Dev nD) (j : (⟨2, ![128, 128]⟩ : Shape).Idx) : row1 m c j = part1 m c j + ∑ i : Fin 3, part1 m (rowD c i.rev) j := by
  refine (pay7_apply (part1 m c) (got11 m c) j).trans (congrArg (part1 m c j + ·) (Finset.sum_congr rfl fun i _ => ?_))
  refine (pay6_apply (row0 m (rowD c i.rev)) (got20 m (rowD c i.rev)) (wi1A m (rowD c i.rev)) (wo1A m (rowD c i.rev)) (j 0) (j 1)).trans ?_
  rw [← eq_ix2 j]
  rfl
@[inherit_doc all0] theorem all1 (c : Dev nD) (j : (⟨2, ![128, 128]⟩ : Shape).Idx) : plus (row1 m c) (got21 m c) j = ∑ d, part1 m d j := by
  rw [← sum_phases (fun d => part1 m d j) c]
  simp only [← row1_apply]
  refine congrArg (row1 m c j + ·) (Finset.sum_congr rfl fun k _ => ?_)
  refine (pay9_apply (part1 m (colD c k.rev)) (got11 m (colD c k.rev)) (j 0) (j 1)).trans ?_
  rw [← eq_ix2 j]
  rfl

/-- A device's rows of the result: the devices' last products, added. -/
theorem out_apply (c : Dev nD) (j : (⟨2, ![4, 128]⟩ : Shape).Idx) : outA m c j = ∑ d, part2 m d (ix2 (rowOf c (j 0)) (j 1)) := by
  rw [← sum_scatter (fun d => part2 m d (ix2 (rowOf c (j 0)) (j 1))) c]
  exact pay13_apply (ownRows (Val := Elt Ideal) (part2 m c) c) (fillR (Val := Elt Ideal) (part2 m) c) j

variable {m} {x : Sq} {wi0 wi1 wi2 : Wide 8192} {wo0 wo1 wo2 : Tall 8192}

/-- What a device's arguments are of the whole arrays. -/
structure Blocks (m : (ℓ : Loc nD τ sig) → Buf (Elt Ideal) ℓ) (x : Sq) (wi0 wi1 wi2 : Wide 8192) (wo0 wo1 wo2 : Tall 8192) : Prop where
  hx : ∀ c : Dev nD, xA m c = x
  hi0 : ∀ c : Dev nD, wi0A m c = Layout.block ⟨2, ![128, 256]⟩ ⟨2, ![128, 8192]⟩ 1 32 c wi0
  hi1 : ∀ c : Dev nD, wi1A m c = Layout.block ⟨2, ![128, 256]⟩ ⟨2, ![128, 8192]⟩ 1 32 c wi1
  hi2 : ∀ c : Dev nD, wi2A m c = Layout.block ⟨2, ![128, 256]⟩ ⟨2, ![128, 8192]⟩ 1 32 c wi2
  ho0 : ∀ c : Dev nD, wo0A m c = Layout.block ⟨2, ![256, 128]⟩ ⟨2, ![8192, 128]⟩ 0 32 c wo0
  ho1 : ∀ c : Dev nD, wo1A m c = Layout.block ⟨2, ![256, 128]⟩ ⟨2, ![8192, 128]⟩ 0 32 c wo1
  ho2 : ∀ c : Dev nD, wo2A m c = Layout.block ⟨2, ![256, 128]⟩ ⟨2, ![8192, 128]⟩ 0 32 c wo2

/-- After the first all-reduce every device holds the reference's first layer, -/
theorem after0 (h : Blocks m x wi0 wi1 wi2 wo0 wo1 wo2) (c : Dev nD) : plus (row0 m c) (got20 m c) = lay 8192 x wi0 wo0 := by
  funext j
  rw [all0, ← lay_blocks]
  refine Finset.sum_congr rfl fun d _ => congrFun ((pay1_eq (xA m d) (wi0A m d) (wo0A m d)).trans ?_) j
  rw [h.hx, h.hi0, h.ho0]
/-- after the second its second, -/
theorem after1 (h : Blocks m x wi0 wi1 wi2 wo0 wo1 wo2) (c : Dev nD) : plus (row1 m c) (got21 m c) = lay 8192 (lay 8192 x wi0 wo0) wi1 wo1 := by
  funext j
  rw [all1, ← lay_blocks]
  refine Finset.sum_congr rfl fun d _ => congrFun ((pay5_eq (row0 m d) (got20 m d) (wi1A m d) (wo1A m d)).trans ?_) j
  rw [after0 h, h.hi1, h.ho1]
/-- and the reduce-scatter leaves it its rows of the third. -/
theorem result (h : Blocks m x wi0 wi1 wi2 wo0 wo1 wo2) (c : Dev nD) :
    outA m c = Layout.block ⟨2, ![4, 128]⟩ ⟨2, ![128, 128]⟩ 0 32 c (net x wi0 wi1 wi2 wo0 wo1 wo2) := by
  funext j
  rw [out_apply]
  have hr : (Layout.block ⟨2, ![4, 128]⟩ ⟨2, ![128, 128]⟩ 0 32 c (net x wi0 wi1 wi2 wo0 wo1 wo2) : (⟨2, ![4, 128]⟩ : Shape).Idx → EReal) j = net x wi0 wi1 wi2 wo0 wo1 wo2 (ix2 (rowOf c (j 0)) (j 1)) := by
    refine congrArg (net x wi0 wi1 wi2 wo0 wo1 wo2) (funext fun a => Fin.ext ?_)
    fin_cases a
    · show c.val * 4 + (j 0).val = 4 * c.val + (j 0).val; omega
    · rfl
  rw [hr, net, ← lay_blocks]
  refine Finset.sum_congr rfl fun d _ => congrFun ((pay12_eq (row1 m d) (got21 m d) (wi2A m d) (wo2A m d)).trans ?_) _
  rw [after1 h, h.hi2, h.ho2]

end

/-- The claim: on every device the kernel's result is the device's block of the reference's. -/
theorem value : Cert.algebraic_KernelIdeal_ReferenceIdeal := by
  intro m g m' g' _ hag
  let A (b : Ref Cert.ReferenceIdeal.sig .tc) := m' (((0 : Dev Cert.ReferenceIdeal.nD) : Thread Cert.ReferenceIdeal.nD Cert.ReferenceIdeal.τ).loc b)
  have hb : Blocks m (A Cert.ReferenceIdeal.main_arg0) (A Cert.ReferenceIdeal.main_arg1) (A Cert.ReferenceIdeal.main_arg2) (A Cert.ReferenceIdeal.main_arg3)
      (A Cert.ReferenceIdeal.main_arg4) (A Cert.ReferenceIdeal.main_arg5) (A Cert.ReferenceIdeal.main_arg6) :=
    ⟨fun c => (xA_eq m c).trans (hag c).1, fun c => (wi0A_eq m c).trans (hag c).2.1, fun c => (wi1A_eq m c).trans (hag c).2.2.1,
      fun c => (wi2A_eq m c).trans (hag c).2.2.2.1, fun c => (wo0A_eq m c).trans (hag c).2.2.2.2.1, fun c => (wo1A_eq m c).trans (hag c).2.2.2.2.2.1,
      fun c => (wo2A_eq m c).trans (hag c).2.2.2.2.2.2⟩
  refine ⟨net (A Cert.ReferenceIdeal.main_arg0) (A Cert.ReferenceIdeal.main_arg1) (A Cert.ReferenceIdeal.main_arg2) (A Cert.ReferenceIdeal.main_arg3)
      (A Cert.ReferenceIdeal.main_arg4) (A Cert.ReferenceIdeal.main_arg5) (A Cert.ReferenceIdeal.main_arg6),
    θ_run_mono (run_ends (F := Ideal) m g) fun _ h c => ⟨(h.1 c).1.trans (result hb c), (h.1 c).2⟩,
    θ_run_mono (Cert.ReferenceIdeal.Value.run (F := Ideal) m' g') fun _ h => ⟨(h 0).1.trans (layers_eq _ _ _ _ _ _ _), (h 0).2⟩⟩

end Cert.Allreduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Transfer
public import proofs.«01_k».proof.Proof.Host
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Allreduce.frame_kernel, Cert.Allreduce.frame_ideal, Cert.Allreduce.frame_reference, trivial, Cert.Allreduce.value⟩

end Cert.Proof

end
